-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8192 : Shape := ⟨3, ![4, 2048, 8192]⟩
abbrev S24576x8192 : Shape := ⟨2, ![24576, 8192]⟩
abbrev S24576x256 : Shape := ⟨2, ![24576, 256]⟩
abbrev S4x2048x24576 : Shape := ⟨3, ![4, 2048, 24576]⟩
abbrev S8192x8192 : Shape := ⟨2, ![8192, 8192]⟩
abbrev S8192x1 : Shape := ⟨2, ![8192, 1]⟩
abbrev S128x8192 : Shape := ⟨2, ![128, 8192]⟩
abbrev S128x1 : Shape := ⟨2, ![128, 1]⟩
abbrev S128 : Shape := ⟨1, ![128]⟩
abbrev S8192x24576 : Shape := ⟨2, ![8192, 24576]⟩
abbrev S8192x768 : Shape := ⟨2, ![8192, 768]⟩
abbrev S1024x8192 : Shape := ⟨2, ![1024, 8192]⟩
abbrev S1024x1 : Shape := ⟨2, ![1024, 1]⟩
abbrev S512x8192 : Shape := ⟨2, ![512, 8192]⟩
abbrev S512x256 : Shape := ⟨2, ![512, 256]⟩
abbrev S1024x512 : Shape := ⟨2, ![1024, 512]⟩
abbrev S1024x768 : Shape := ⟨2, ![1024, 768]⟩
abbrev S512x128 : Shape := ⟨2, ![512, 128]⟩
abbrev S512x128x1 : Shape := ⟨3, ![512, 128, 1]⟩
abbrev S1024x128 : Shape := ⟨2, ![1024, 128]⟩
abbrev S1024x128x1 : Shape := ⟨3, ![1024, 128, 1]⟩

abbrev nBuf : Space → Nat
  | .hbm => 11
  | .vmem => 23
  | .smem => 0
  | _ => 0

abbrev bufTy : (tb : Table) → Fin (tcTables nBuf tb) → BufTy
  | .hbm, ⟨0, _⟩ => ⟨S4x2048x8192, .bf16⟩
  | .hbm, ⟨1, _⟩ => ⟨S24576x8192, .fp8e4m3⟩
  | .hbm, ⟨2, _⟩ => ⟨S24576x256, .i8⟩
  | .hbm, ⟨3, _⟩ => ⟨S4x2048x24576, .bf16⟩
  | .hbm, ⟨4, _⟩ => ⟨S8192x8192, .bf16⟩
  | .hbm, ⟨5, _⟩ => ⟨S8192x8192, .fp8e4m3⟩
  | .hbm, ⟨6, _⟩ => ⟨S8192x1, .f32⟩
  | .hbm, ⟨7, _⟩ => ⟨S8192x24576, .bf16⟩
  | .hbm, ⟨8, _⟩ => ⟨S8192x24576, .bf16⟩
  | .hbm, ⟨9, _⟩ => ⟨S8192x24576, .fp8e4m3⟩
  | .hbm, ⟨10, _⟩ => ⟨S8192x768, .i8⟩
  | .local _ .vmem, ⟨0, _⟩ => ⟨S128x8192, .bf16⟩
  | .local _ .vmem, ⟨1, _⟩ => ⟨S128x8192, .bf16⟩
  | .local _ .vmem, ⟨2, _⟩ => ⟨S128x8192, .fp8e4m3⟩
  | .local _ .vmem, ⟨3, _⟩ => ⟨S128x8192, .fp8e4m3⟩
  | .local _ .vmem, ⟨4, _⟩ => ⟨S128x1, .f32⟩
  | .local _ .vmem, ⟨5, _⟩ => ⟨S128x1, .f32⟩
  | .local _ .vmem, ⟨6, _⟩ => ⟨S1024x8192, .fp8e4m3⟩
  | .local _ .vmem, ⟨7, _⟩ => ⟨S1024x1, .f32⟩
  | .local _ .vmem, ⟨8, _⟩ => ⟨S1024x1, .f32⟩
  | .local _ .vmem, ⟨9, _⟩ => ⟨S512x8192, .fp8e4m3⟩
  | .local _ .vmem, ⟨10, _⟩ => ⟨S512x8192, .fp8e4m3⟩
  | .local _ .vmem, ⟨11, _⟩ => ⟨S512x256, .i8⟩
  | .local _ .vmem, ⟨12, _⟩ => ⟨S512x256, .i8⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .fp8e4m3⟩
  | .local _ .vmem, ⟨18, _⟩ => ⟨S1024x512, .fp8e4m3⟩
  | .local _ .vmem, ⟨19, _⟩ => ⟨S1024x768, .i8⟩
  | .local _ .vmem, ⟨20, _⟩ => ⟨S1024x768, .i8⟩
  | .local _ .vmem, ⟨21, _⟩ => ⟨S1024x8192, .bf16⟩
  | .local _ .vmem, ⟨22, _⟩ => ⟨S512x8192, .bf16⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 48], ![false, false]⟩

def k1_mult1 (i : grid1.Coords) : BitVec 32 :=
  let arg1 : BitVec 32 := BitVec.ofNat 32 (i 1).val
  let c0_i32_1064 : BitVec 32 := 0#32
  let v3325 : BitVec 1 := Scalar.cmpi .sgt arg1 c0_i32_1064
  let v3326 : BitVec 32 := Scalar.extui v3325
  let c0_i32_1065 : BitVec 32 := 0#32
  let v3327 : BitVec 1 := Scalar.cmpi .slt arg1 c0_i32_1065
  let v3328 : BitVec 32 := Scalar.extui v3327
  let v3329 : BitVec 32 := Scalar.subi v3326 v3328
  let c8_i32_1063 : BitVec 32 := 8#32
  let c0_i32_1066 : BitVec 32 := 0#32
  let v3330 : BitVec 1 := Scalar.cmpi .sgt c8_i32_1063 c0_i32_1066
  let v3331 : BitVec 32 := Scalar.extui v3330
  let c0_i32_1067 : BitVec 32 := 0#32
  let v3332 : BitVec 1 := Scalar.cmpi .slt c8_i32_1063 c0_i32_1067
  let v3333 : BitVec 32 := Scalar.extui v3332
  let v3334 : BitVec 32 := Scalar.subi v3331 v3333
  let v3335 : BitVec 1 := Scalar.cmpi .ne v3329 v3334
  let v3336 : BitVec 32 := Scalar.remsi arg1 c8_i32_1063
  let c0_i32_1068 : BitVec 32 := 0#32
  let v3337 : BitVec 1 := Scalar.cmpi .ne v3336 c0_i32_1068
  let v3338 : BitVec 1 := Scalar.andi v3335 v3337
  let v3324 : BitVec 32 := Scalar.divsi arg1 c8_i32_1063
  let c1_i32_1069 : BitVec 32 := 1#32
  let v3339 : BitVec 32 := Scalar.subi v3324 c1_i32_1069
  let v3340 : BitVec 32 := Scalar.select v3338 v3339 v3324
  let c128_i32_1070 : BitVec 32 := 128#32
  let v3341 : BitVec 32 := Scalar.muli v3340 c128_i32_1070
  v3341
def k1_off1 (i : grid1.Coords) : Fin 2 → Nat :=
  let c0_1071 : Index := 0#32
  let arg1 : BitVec 32 := BitVec.ofNat 32 (i 1).val
  let c0_i32_1064 : BitVec 32 := 0#32
  let v3325 : BitVec 1 := Scalar.cmpi .sgt arg1 c0_i32_1064
  let v3326 : BitVec 32 := Scalar.extui v3325
  let c0_i32_1065 : BitVec 32 := 0#32
  let v3327 : BitVec 1 := Scalar.cmpi .slt arg1 c0_i32_1065
  let v3328 : BitVec 32 := Scalar.extui v3327
  let v3329 : BitVec 32 := Scalar.subi v3326 v3328
  let c8_i32_1063 : BitVec 32 := 8#32
  let c0_i32_1066 : BitVec 32 := 0#32
  let v3330 : BitVec 1 := Scalar.cmpi .sgt c8_i32_1063 c0_i32_1066
  let v3331 : BitVec 32 := Scalar.extui v3330
  let c0_i32_1067 : BitVec 32 := 0#32
  let v3332 : BitVec 1 := Scalar.cmpi .slt c8_i32_1063 c0_i32_1067
  let v3333 : BitVec 32 := Scalar.extui v3332
  let v3334 : BitVec 32 := Scalar.subi v3331 v3333
  let v3335 : BitVec 1 := Scalar.cmpi .ne v3329 v3334
  let v3336 : BitVec 32 := Scalar.remsi arg1 c8_i32_1063
  let c0_i32_1068 : BitVec 32 := 0#32
  let v3337 : BitVec 1 := Scalar.cmpi .ne v3336 c0_i32_1068
  let v3338 : BitVec 1 := Scalar.andi v3335 v3337
  let v3324 : BitVec 32 := Scalar.divsi arg1 c8_i32_1063
  let c1_i32_1069 : BitVec 32 := 1#32
  let v3339 : BitVec 32 := Scalar.subi v3324 c1_i32_1069
  let v3340 : BitVec 32 := Scalar.select v3338 v3339 v3324
  let c128_i32_1070 : BitVec 32 := 128#32
  let v3341 : BitVec 32 := Scalar.muli v3340 c128_i32_1070
  let v3342 : BitVec 32 := v3341
  let v3343 : Index := Scalar.indexCast v3342
  ![0, v3343.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x8192 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x768 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4x2048x8192 : Shape := ⟨3, ![4, 2048, 8192]⟩
abbrev S24576x8192 : Shape := ⟨2, ![24576, 8192]⟩
abbrev S24576x256 : Shape := ⟨2, ![24576, 256]⟩
abbrev S4x2048x24576 : Shape := ⟨3, ![4, 2048, 24576]⟩
abbrev S8192x8192 : Shape := ⟨2, ![8192, 8192]⟩
abbrev S8192x24576 : Shape := ⟨2, ![8192, 24576]⟩
abbrev S8192x1 : Shape := ⟨2, ![8192, 1]⟩
abbrev S8192x768 : Shape := ⟨2, ![8192, 768]⟩
abbrev S8192 : Shape := ⟨1, ![8192]⟩
abbrev S24576x256x32 : Shape := ⟨3, ![24576, 256, 32]⟩
abbrev S24576x256x1 : Shape := ⟨3, ![24576, 256, 1]⟩
abbrev S8192x768x32 : Shape := ⟨3, ![8192, 768, 32]⟩
abbrev S8192x768x1 : Shape := ⟨3, ![8192, 768, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x8192, .bf16⟩
  | .hbm, ⟨1, _⟩ => ⟨S24576x8192, .fp8e4m3⟩
  | .hbm, ⟨2, _⟩ => ⟨S24576x256, .i8⟩
  | .hbm, ⟨3, _⟩ => ⟨S4x2048x24576, .bf16⟩
  | .hbm, ⟨4, _⟩ => ⟨S8192x8192, .bf16⟩
  | .hbm, ⟨5, _⟩ => ⟨S8192x24576, .bf16⟩
  | .hbm, ⟨6, _⟩ => ⟨S8192x24576, .bf16⟩
  | .hbm, ⟨7, _⟩ => ⟨S8192x8192, .fp8e4m3⟩
  | .hbm, ⟨8, _⟩ => ⟨S8192x1, .f32⟩
  | .hbm, ⟨9, _⟩ => ⟨S8192x24576, .fp8e4m3⟩
  | .hbm, ⟨10, _⟩ => ⟨S8192x768, .i8⟩
  | .local _ .vmem, ⟨0, _⟩ => ⟨S8192x8192, .bf16⟩
  | .local _ .vmem, ⟨1, _⟩ => ⟨S24576x8192, .fp8e4m3⟩
  | .local _ .vmem, ⟨2, _⟩ => ⟨S24576x256, .i8⟩
  | .local _ .vmem, ⟨3, _⟩ => ⟨S8192x24576, .bf16⟩
  | .local _ .vmem, ⟨4, _⟩ => ⟨S8192x24576, .bf16⟩
  | .local _ .vmem, ⟨5, _⟩ => ⟨S8192x8192, .fp8e4m3⟩
  | .local _ .vmem, ⟨6, _⟩ => ⟨S8192x1, .f32⟩
  | .local _ .vmem, ⟨7, _⟩ => ⟨S8192x24576, .fp8e4m3⟩
  | .local _ .vmem, ⟨8, _⟩ => ⟨S8192x768, .i8⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x24576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x24576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x24576 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x768 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Ker.Quant.lean ====
/- The first kernel call (the row quantiser `quant_x`): what its body leaves in its two output windows, for any values, the proof
   data of its pipeline from any contents `V` of the arrays at entry, and the body obligation at every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Quant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the arrays when the call is entered
variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x8192 := Rect.unit (s := S128x8192) ![0, 0] S128x8192.size inb_S128x8192_S128x8192_0_0
abbrev r0_1 : Rect S128x1 := Rect.unit (s := S128x1) ![0, 0] S128x1.size inb_S128x1_S128x1_0_0

/-! ## What the body leaves in each output window's buffer -/

/-! ### Values of the body that the stores' payloads, spelt out, would write more than once

    Each is a vector the body binds (often a part call's result), stated over the input windows' blocks and
    numbered on from the skeleton's payload functions (`val0_pay10` …, after `k0_pay9`), so that
    `out0_W` and the values after it name it instead of spelling it out (`unfold_out out0_W` opens a canon
    with them, `unfold_payloads` opens them with the payloads); the comment after each is the printed function's
    name for the value (a count appended where that name is bound again). -/

def val0_pay10 (x0 : Vec F S128x8192 .bf16) : FVec F S128x1 .f32 :=
  k0_pay5 (View.ld x0 r0_0) -- `v5`
def val0_pay11 (x0 : Vec F S128x8192 .bf16) : IVec S128x1 32 :=
  k0_pay6 (View.ld x0 r0_0) -- `v39`
def val0_pay12 (x0 : Vec F S128x8192 .bf16) : IVec S128x1 32 :=
  k0_pay7 (View.ld x0 r0_0) -- `v41`
def val0_pay13 (x0 : Vec F S128x8192 .bf16) : IVec S128x1 32 :=
  k0_pay8 (val0_pay10 x0) (val0_pay11 x0) (val0_pay12 x0) -- `v83`
def val0_pay14 (x0 : Vec F S128x8192 .bf16) : IVec S128x1 32 :=
  k0_pay9 (val0_pay10 x0) (val0_pay11 x0) (val0_pay12 x0) -- `v85`

/-- Window 1's staging buffer after the body, from the input windows' blocks: its 1 store as pieces, LAST
    FIRST. -/
def out0_1 (x0 : Vec F S128x8192 .bf16) : Vec F S128x8192 .fp8e4m3 :=
  View.canon [⟨r0_0, k0_pay2 (k0_pay4 (View.ld x0 r0_0)) (val0_pay10 x0) (val0_pay13 x0) (val0_pay14 x0)⟩]

/-- Its stores tile the buffer (checked by evaluation), so they cover it. -/
theorem cover0_1 (p0 : Vec F S128x8192 .fp8e4m3) (y : S128x8192.Idx) :
    ∃ pc ∈ ([⟨r0_0, p0⟩] : List (View.Piece (Elt F) S128x8192 .fp8e4m3)), y ∈ pc.1.set :=
  View.cover_of_tiled [⟨r0_0, p0⟩] S128x8192.size (by rfl) y

/-- Window 2's staging buffer after the body, from the input windows' blocks: its 1 store as pieces, LAST
    FIRST. -/
def out0_2 (x0 : Vec F S128x8192 .bf16) : Vec F S128x1 .f32 :=
  View.canon [⟨r0_1, k0_pay3 (val0_pay10 x0) (val0_pay13 x0) (val0_pay14 x0)⟩]

/-- Its stores tile the buffer (checked by evaluation), so they cover it. -/
theorem cover0_2 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel (c : Dev nD) (E : Set ℕ) (i : grid0.Coords) (arg1 : Memref sig .tc .vmem S128x8192 .bf16) (harg1 : arg1.IsWhole) (arg2 : Memref sig .tc .vmem S128x8192 .fp8e4m3) (harg2 : arg2.IsWhole) (arg3 : Memref sig .tc .vmem S128x1 .f32) (harg3 : arg3.IsWhole)
    (x0 : Vec F S128x8192 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of the one pipeline on core `c`: the arrays as the region finds them (`V`); after the body at
    point `t` each input's buffer at its block and each output's at `out0_W` of the input blocks; the invariant the
    class's ; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out0_1 (iblk V c 0 t)
    | ⟨2, _⟩ => out0_2 (iblk V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = out0_1 (iblk V c 0 t) := by dsimp only [dat]
theorem after0_2 (c : Dev nD) (t : Fin cfg0.N) : (dat V c).after 2 t = out0_2 (iblk V c 0 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` , -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Kernel.Quant

end
-- ==== Proof.Ker.Run.lean ====
/- The run of the whole program, two kernel calls with a reshape before each, for any values. The first call's pipeline has exact
   proof data (Quant.lean). The second call's is taken from outside: any predicate `Rl` on what its body leaves in its three output
   windows and any invariant `Phi` between its grid points, given the body obligation. The conclusion: the arguments end as launched,
   the first call's two results are what its pipeline's data name, and each result of the second call is written back from contents
   that meet `Rl`; every semaphore ends at zero. -/
module

public import proofs.«01_k».proof.Proof.Ker.Quant
public import proofs.«01_k».proof.Proof.Gen.Kernel.Regions
public import Idealize.ShloMosaic.Lib.Pipeline.Frame
public import Idealize.ShloMosaic.Lib.Pipeline.Regions
public import Idealize.ShloMosaic.Lib.Pipeline.RegionsLoop
public import Idealize.ShloMosaic.Lib.Pipeline.RegionArrays
public import Idealize.ShloMosaic.Lib.Pipeline.DatRel
public import Idealize.ShloMosaic.Lib.Pipeline.ArrRel

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the arrays between the steps -/

/-- The first call's proof data, its arrays at what the first reshape leaves. -/
abbrev dat0 (c : Dev nD) : Dat τ (Elt F) Unit ℕ (UR sig nD τ) ℕ cfg0 c := Quant.dat (fun c b => V1 m c b) c

/-- The codes the first call leaves. -/
abbrev codes (c : Dev nD) : Buf (Elt F) ((c : Thread nD τ).loc main_v1_0) := (dat0 m c).arrAt 1 cfg0.N
/-- The scales the first call leaves. -/
abbrev scales (c : Dev nD) : Buf (Elt F) ((c : Thread nD τ).loc main_v1_1) := (dat0 m c).arrAt 2 cfg0.N

/-- The unscoped buffers after the first call, -/
abbrev W2 (c : Dev nD) : Valuation τ sig (Elt F) := Function.update (Function.update (V1 m c) main_v1_0 (codes m c)) main_v1_1 (scales m c)
/-- and after the second reshape. -/
abbrev W3 (c : Dev nD) : Valuation τ sig (Elt F) := StableHlo.after hostOps1 (W2 m c)

theorem W2_of (c : Dev nD) (r : Ref sig .tc) (h : r ∉ ([main_v1_0, main_v1_1] : List (Ref sig .tc))) : W2 m c r = V1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W2_codes (c : Dev nD) : W2 m c main_v1_0 = codes m c := by
  rw [W2, Function.update_of_ne (StableHlo.devRef_ne_of_ne (by decide) : (Proc.devRef .tc main_v1_0 : DevRef τ sig) ≠ Proc.devRef .tc main_v1_1), Function.update_self]
theorem W2_scales (c : Dev nD) : W2 m c main_v1_1 = scales m c := by
  rw [W2, Function.update_self]
theorem W3_of (c : Dev nD) (r : Ref sig .tc) (h : r ∉ hostOps1_W) : W3 m c r = W2 m c r :=
  StableHlo.after_of_writes_sub hostOps1 _ hostOps1_writes h
theorem W3_codes (c : Dev nD) : W3 m c main_v1_0 = codes m c := (W3_of m c _ (by decide)).trans (W2_codes m c)
theorem W3_scales (c : Dev nD) : W3 m c main_v1_1 = scales m c := (W3_of m c _ (by decide)).trans (W2_scales m c)
theorem W3_arg (c : Dev nD) (r : Ref sig .tc) (h₁ : r ∉ hostOps1_W) (h₂ : r ∉ ([main_v1_0, main_v1_1] : List (Ref sig .tc))) (h₃ : r ∉ hostOps0_W) :
    W3 m c r = m ((c : Thread nD τ).loc r) :=
  (W3_of m c r h₁).trans ((W2_of m c r h₂).trans ((V1_of m c r h₃).trans rfl))

/-! ## The second call's data -/

/-- The second call's three output windows. -/
def outWin : Fin 8 → Bool := fun w => w.val == 5 || w.val == 6 || w.val == 7

/-- The block of window `w` at point `t`, read off its array as the second call finds it. -/
def iblk (c : Dev nD) (w : Fin cfg1.W) (t : Fin cfg1.N) : ((cfg1.win w).xblock (cfg1.grid.coords t)).Idx → Elt F (cfg1.win w).elt :=
  ((cfg1.win w).blk t).view.read (Elt F) (W3 m c (Pipeline.arrRef spec1 w))

-- the invariant between the second call's points, and the predicate on what its body leaves in the output windows
variable (Phi : (c : Dev nD) → Fin (cfg1.N + 1) → sProp (MT nD τ sig Unit (Elt F) ℕ (UR sig nD τ) ℕ))
  (Rl : (c : Dev nD) → (w : Fin cfg1.W) → Fin cfg1.N → ((cfg1.win w).block.Idx → Elt F (cfg1.win w).elt) → Prop)

/-- The second call's proof data: the arrays as found, the input windows' buffers at their blocks. -/
def dat1 (c : Dev nD) : Dat τ (Elt F) Unit ℕ (UR sig nD τ) ℕ cfg1 c where
  A w := W3 m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg1) ⟨5, h⟩ t
    | ⟨6, h⟩ => Pipeline.Dat.unnamed (cfg := cfg1) ⟨6, h⟩ t
    | ⟨7, h⟩ => Pipeline.Dat.unnamed (cfg := cfg1) ⟨7, h⟩ t
  Φ := Phi c
  q _ := fullShare
  owed _ := 0

theorem A1_eq (c : Dev nD) (w : Fin cfg1.W) : (dat1 m Phi c).A w = W3 m c (Pipeline.arrRef spec1 w) := by dsimp only [dat1]
theorem after1_0 (c : Dev nD) (t : Fin cfg1.N) : (dat1 m Phi c).after 0 t = iblk m c 0 t := by dsimp only [dat1]
theorem after1_1 (c : Dev nD) (t : Fin cfg1.N) : (dat1 m Phi c).after 1 t = iblk m c 1 t := by dsimp only [dat1]
theorem after1_2 (c : Dev nD) (t : Fin cfg1.N) : (dat1 m Phi c).after 2 t = iblk m c 2 t := by dsimp only [dat1]
theorem after1_3 (c : Dev nD) (t : Fin cfg1.N) : (dat1 m Phi c).after 3 t = iblk m c 3 t := by dsimp only [dat1]
theorem after1_4 (c : Dev nD) (t : Fin cfg1.N) : (dat1 m Phi c).after 4 t = iblk m c 4 t := by dsimp only [dat1]

/-- Each input window's buffer holds its block when the body runs, fetched at that point or not. -/
theorem before1_0 (c : Dev nD) (t : Fin cfg1.N) (d) : (dat1 m Phi c).before 0 t d = iblk m c 0 t :=
  ((dat1 m Phi c).before_in_eq_fetched 0 rfl (fun _ => rfl) (fun _ _ _ => rfl) (fun t => by rw [after1_0]; unfold Dat.blockOf iblk; rw [A1_eq]; try rfl) t d).trans
    (by unfold Dat.fetched Dat.blockOf iblk; rw [A1_eq]; try rfl)
theorem before1_1 (c : Dev nD) (t : Fin cfg1.N) (d) : (dat1 m Phi c).before 1 t d = iblk m c 1 t :=
  ((dat1 m Phi c).before_in_eq_fetched 1 rfl (fun _ => rfl) (fun _ _ _ => rfl) (fun t => by rw [after1_1]; unfold Dat.blockOf iblk; rw [A1_eq]; try rfl) t d).trans
    (by unfold Dat.fetched Dat.blockOf iblk; rw [A1_eq]; try rfl)
theorem before1_2 (c : Dev nD) (t : Fin cfg1.N) (d) : (dat1 m Phi c).before 2 t d = iblk m c 2 t :=
  ((dat1 m Phi c).before_in_eq_fetched 2 rfl (fun _ => rfl) (fun _ _ _ => rfl) (fun t => by rw [after1_2]; unfold Dat.blockOf iblk; rw [A1_eq]; try rfl) t d).trans
    (by unfold Dat.fetched Dat.blockOf iblk; rw [A1_eq]; try rfl)
theorem before1_3 (c : Dev nD) (t : Fin cfg1.N) (d) : (dat1 m Phi c).before 3 t d = iblk m c 3 t :=
  ((dat1 m Phi c).before_in_eq_fetched 3 rfl (fun _ => rfl) (fun _ _ _ => rfl) (fun t => by rw [after1_3]; unfold Dat.blockOf iblk; rw [A1_eq]; try rfl) t d).trans
    (by unfold Dat.fetched Dat.blockOf iblk; rw [A1_eq]; try rfl)
theorem before1_4 (c : Dev nD) (t : Fin cfg1.N) (d) : (dat1 m Phi c).before 4 t d = iblk m c 4 t :=
  ((dat1 m Phi c).before_in_eq_fetched 4 rfl (fun _ => rfl) (fun _ _ _ => rfl) (fun t => by rw [after1_4]; unfold Dat.blockOf iblk; rw [A1_eq]; try rfl) t d).trans
    (by unfold Dat.fetched Dat.blockOf iblk; rw [A1_eq]; try rfl)

/-- The second call's data with the output windows held to `Rl`. -/
abbrev rdat1 (c : Dev nD) : RDat τ (Elt F) Unit ℕ (UR sig nD τ) ℕ cfg1 c := (dat1 m Phi c).toRRel outWin (Rl c)

/-- Both calls' exact data, -/
abbrev pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m Phi c
/-- and the relational data the run is taken over. -/
abbrev rdats : (p : Fin 2) → (c : Dev nD) → RDat τ (Elt F) Unit ℕ (UR sig nD τ) ℕ (Pipeline.pin (pcfgs (F := F)) adm p) c
  | ⟨0, _⟩ => fun c => (dat0 m c).toR
  | ⟨1, _⟩ => fun c => rdat1 m Phi Rl c

/-! ## @main as segments -/

/-- No core owes another anything: no level is assigned. -/
abbrev L : GSem nD τ sig → Finset Unit := fun _ => ∅
abbrev lv : GSem nD τ sig → Unit → ℕ := fun _ _ => 0

/-- What rides beside the buffers: the generator register and the core's dues, none. -/
abbrev E (c : Dev nD) : sProp 𝕄 := iprop((∃ r, prngReg c r) ∗ ∃ W, owes (c : Thread nD τ) (0 : CellTallies nD τ sig Unit) W)

/-- The first reshape. -/
def hseg0 : Pipeline.HostSeg (Ix := Unit) (Name := ℕ) (U := UR sig nD τ) (Lvl := ℕ) (pcfgs (F := F)) defs₀ Variants.none L lv :=
  seg0 m Variants.none L lv (fun _ => E)

/-- The second reshape. -/
def hseg2 : Pipeline.HostSeg (Ix := Unit) (Name := ℕ) (U := UR sig nD τ) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E

-- a lemma stated over `cfgs p` applies at the pinned configuration only when unification may unfold plain definitions in a
-- metavariable's type
set_option backward.isDefEq.respectTransparency.types false in
/-- The first call: entered with every unscoped buffer at `V1`, left with them at `W2`. -/
def reg0 : RDat.RegionSeg (pcfgs (F := F)) adm (rdats m Phi Rl) () defs₀ Variants.none L lv 0 where
  win := launch0.win.to₀
  block_pos := launch0.block_pos
  stage_whole := launch0.stage_whole
  K := PEmpty
  osem k := k.elim
  ho := Pipeline.OwnSemFacts.none _
  hbody c := (Quant.body_obligation (fun c b => V1 m c b) c).toR
  hwaits := RDat.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (W2 m c) ∗ E c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none, ← Pipeline.unscopedBufs_held]
    have hsplit := RDat.arrays_of_unscopedBufs (p := 0) (pcfgs (F := F)) adm (rdats m Phi Rl) launch0.win launch0.arr_whole c
      ((dat0 m c).share_full fun _ => rfl) (fun b => V1 m c b) (Quant.A_eq (fun c b => V1 m c b) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp] <;> iassumption
  hin c := by
    rw [show (rdats m Phi Rl 0 c).Φ 0 = Pipeline.ΦA spec0 c from rfl]; unfold Pipeline.ΦA
    iintro ⟨Hp, -, Hr⟩
    isplitl [Hr] <;> iassumption
  hout c := by
    rw [Pipeline.ownSems0_none, show (rdats m Phi Rl 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m Phi) ((dat0 m c).share_full fun _ => rfl) (fun b => V1 m c b) (fun b => W2 m c b) ((dat0 m c).arrAt · cfg0.N)
      (fun w => by
        fin_cases w
        · exact ((dat0 m c).arrAt_in 0 rfl _).trans (W2_of m c main_v0 (by decide)).symm
        · exact (W2_codes m c).symm
        · exact (W2_scales m c).symm)
      (fun b hb => W2_of m c b fun h => hb (by
        rcases List.mem_cons.mp h with rfl | h
        · exact Finset.mem_image.mpr ⟨1, Finset.mem_univ _, rfl⟩
        · obtain rfl := List.mem_singleton.mp h
          exact Finset.mem_image.mpr ⟨2, Finset.mem_univ _, rfl⟩))
    have harr : (rdats m Phi Rl 0 c).arraysAt (Pipeline.pin (pcfgs (F := F)) adm 0).N ⊢ ((dat0 m c).arrays ((dat0 m c).arrAt · cfg0.N) : sProp 𝕄) :=
      (dat0 m c).toR_arraysAt_post cfg0.N
    rw [← Pipeline.unscopedBufs_held]
    iintro ⟨Ha, HO, Hp, Hrest⟩
    ihave Ha := harr $$ Ha
    imodintro
    isplitl [Ha Hrest]
    · iapply hjoin; isplitl [Ha] <;> iassumption
    isplitl [Hp]; · iexact Hp
    unfold Pipeline.RDat.owesAt Pipeline.owesWithin
    icases HO with ⟨%W, -, HO⟩; iexists W; iexact HO

/-- What the second call leaves: its arrays, each at contents it may then hold, and the buffers it does not touch. -/
abbrev Tn (c : Dev nD) : sProp 𝕄 :=
  iprop((rdat1 m Phi Rl c).arraysAt cfg1.N
    ∗ Pipeline.unscopedRest (Ix := Unit) (Name := ℕ) (U := UR sig nD τ) (Lvl := ℕ) spec1 c (fun b => W3 m c b) ∗ (∃ r, prngReg c r))

-- as at `reg0`
set_option backward.isDefEq.respectTransparency.types false in
/-- The second call: entered with every unscoped buffer at `W3`, left with `Tn`. -/
def reg1 (hbody : ∀ c, BodyObligationRel (dat1 m Phi c) (defs₀ (F := F)) Variants.none () Set.univ outWin (Rl c))
    (hPhi0 : ∀ c, (Pipeline.ΦA spec1 c : sProp 𝕄) ⊢ Phi c 0) (hPhiN : ∀ c, Phi c (Fin.last cfg1.N) ⊢ (Pipeline.ΦA spec1 c : sProp 𝕄)) :
    RDat.RegionSeg (pcfgs (F := F)) adm (rdats m Phi Rl) () defs₀ Variants.none L lv 1 where
  win := launch1.win.to₀
  block_pos := launch1.block_pos
  stage_whole := launch1.stage_whole
  K := PEmpty
  osem k := k.elim
  ho := Pipeline.OwnSemFacts.none _
  hbody c := (hbody c).toRRel
  hwaits := RDat.hwaits_of_owed_zero _ _ _ _ L lv 1 fun _ _ => rfl
  pre c := iprop(StableHlo.held (c : Thread nD τ) (Pipeline.ucRefs τ sig) (W3 m c) ∗ E c)
  post c := iprop(Tn m Phi Rl c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := by
    rw [Pipeline.ownSems0_none, ← Pipeline.unscopedBufs_held]
    have hsplit := RDat.arrays_of_unscopedBufs (p := 1) (pcfgs (F := F)) adm (rdats m Phi Rl) launch1.win launch1.arr_whole c
      ((dat1 m Phi c).share_full fun _ => rfl) (fun b => W3 m c b) (A1_eq m Phi c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp] <;> iassumption
  hin c := by
    refine BIBase.Entails.trans ?_ (hPhi0 c); unfold Pipeline.ΦA
    iintro ⟨Hp, -, Hr⟩
    isplitl [Hr] <;> iassumption
  hout c := by
    rw [Pipeline.ownSems0_none]; refine BIBase.Entails.trans (hPhiN c) ?_; unfold Pipeline.ΦA
    iintro ⟨Hr, Hp⟩
    isplitl [Hp]; · iexact Hp
    isplitr; · iempintro
    iexact Hr
  hexit c := by
    iintro ⟨Ha, HO, Hp, Hrest⟩
    imodintro
    isplitr [HO]
    · isplitl [Ha]; · iexact Ha
      isplitl [Hrest] <;> iassumption
    unfold Pipeline.RDat.owesAt Pipeline.owesWithin
    icases HO with ⟨%W, -, HO⟩; iexists W; iexact HO

/-- What a final state holds on core `c`. -/
def QY (c : Dev nD) (s : MemSt nD τ sig (Elt F)) : Prop :=
  (∀ w : Fin cfg1.W, (rdat1 m Phi Rl c).ArrAt w cfg1.N (s.mem ((cfg1.win w).arr.view.loc (c : Thread nD τ))))
    ∧ s.mem ((c : Thread nD τ).loc main_arg0) = m ((c : Thread nD τ).loc main_arg0)
    ∧ s.mem ((c : Thread nD τ).loc main_arg3) = m ((c : Thread nD τ).loc main_arg3)

-- as at `reg0`
set_option backward.isDefEq.respectTransparency.types false in
/-- Every weakly fair execution from memory `m` with zero counters terminates, in a state that holds `QY` on every core and has
    every semaphore counter at zero. -/
theorem run (hbody : ∀ c, BodyObligationRel (dat1 m Phi c) (defs₀ (F := F)) Variants.none () Set.univ outWin (Rl c))
    (hPhi0 : ∀ c, (Pipeline.ΦA spec1 c : sProp 𝕄) ⊢ Phi c 0) (hPhiN : ∀ c, Phi c (Fin.last cfg1.N) ⊢ (Pipeline.ΦA spec1 c : sProp 𝕄)) :
    θ_run defs (onTc (τ := τ) (main (F := F))) ⟨m, fun _ => 0, ρ⟩ (fun r => (∀ c, QY m Phi Rl c r.2) ∧ r.2.sem = fun _ => 0) := by
  refine RDat.θ_run_regions_kit_sems (pcfgs (F := F)) adm (rdats m Phi Rl) () cellOf_inj (emb₁ : Emb (UR sig nD τ) 𝕄) defs₀ Variants.none L lv m ρ main
    [.host (hseg0 m), .region (reg0 m Phi Rl), .host (hseg2 m), .region (reg1 m Phi Rl hbody hPhi0 hPhiN)]
    (fun c Q => by
      rewrite [main_chain c, RDat.Seg.run_eq_chain]
      exact .rfl)
    (by simp only [RDat.Seg.pipes_host, RDat.Seg.pipes_region, RDat.Seg.pipes_nil]; decide) (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ E c)) (Tₙ := Tn m Phi Rl)
    (hch := ⟨fun _ => .rfl, fun _ => .rfl, fun _ => .rfl, fun _ => .rfl, fun _ => .rfl⟩)
    (hinit := ?_) (QY := QY m Phi Rl) (hfin := fun c s' => ?_)
    (hQ := fun _ h hz => ⟨h, funext fun g => hz g (.inr (regions_no_unscoped g.2))⟩)
  · rw [ownU_emb₁]
    iintro HP
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · dsimp only [Tn]; rw [unscopedRest1_eq, W3_arg m c main_arg0 (by decide) (by decide) (by decide), W3_arg m c main_arg3 (by decide) (by decide) (by decide)]
    iintro ⟨⟨Ha, ⟨H0, H3, -⟩, -⟩, HSI⟩
    icombine HSI H0 gives %h0
    icombine HSI H3 gives %h3
    ihave Hr := (RDat.arrays_read (p := 1) (pcfgs (F := F)) adm (rdats m Phi Rl) launch1.arr_whole c cfg1.N s') $$ [Ha HSI]
    · isplitl [Ha] <;> iassumption
    icases Hr with ⟨%ha, HSI⟩
    imodintro
    isplitr; · ipureintro; exact ⟨ha, Buf.eq_of_forall_mem_univ h0, Buf.eq_of_forall_mem_univ h3⟩
    iexact HSI

end Cert.Kernel.Run

end
-- ==== Proof.Ker.Body.lean ====
/- One run of the second call's body, for any values and on any staging buffers: what it leaves in its three output buffers and in
   its kept copy of the codes, as functions of what it finds. -/
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the body runs at the first point of its row of the grid. -/
abbrev cond (i : grid1.Coords) : Prop := (Scalar.cmpi .ne (Scalar.extui (Scalar.cmpi .eq (BitVec.ofNat 32 (i 1).val) 0#32)) 0#32) = 1#1

/-- It does at the points divisible by 48. -/
theorem cond_iff : ∀ t : Fin cfg1.N, cond (grid1.coords t) ↔ t.val % 48 = 0 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 1 % 48 := Pipeline.Grid.coords_val t 1 (by decide) rfl
    simp only [cond, e0, e1]
    word_cmp
   : ∀ t : Fin grid1.N, cond (grid1.coords t) ↔ t.val % 48 = 0)

/-- The kept copy of the codes after the body's first step: the block's codes at the first point of a row, else as it was. -/
def keep (i : grid1.Coords) (x0 : Vec F S1024x8192 .fp8e4m3) (xb : Vec F S1024x8192 .bf16) : Vec F S1024x8192 .bf16 :=
  open Classical in if cond i then k1_pay2 x0 else xb

/-- What the branch leaves in the kept copy's buffer reads as `keep`. -/
theorem keep_read (i : grid1.Coords) (arg2 : Memref sig .tc .vmem S1024x8192 .fp8e4m3) (harg2 : arg2.IsWhole) (arg10 : Memref sig .tc .vmem S1024x8192 .bf16) (harg10 : arg10.IsWhole)
    (x0 : Vec F S1024x8192 .fp8e4m3) (xb : Vec F S1024x8192 .bf16) :
    arg10.view.read (Elt F) (if hc : cond i then
      arg10.view.writes (Elt F) (harg10.unread xb)
        [⟨Rect.unit ![0, 0] S1024x8192.size inb_S1024x8192_S1024x8192_0_0,
            k1_pay2 (View.readAt (Elt F) arg2.view (Rect.unit ![0, 0] S1024x8192.size inb_S1024x8192_S1024x8192_0_0).toLoadRect (harg2.unread x0))⟩]
      else harg10.unread xb) = keep i x0 xb := by
  unfold keep
  split
  · rw [View.read_writes_eq_canon _ _ _ (View.cover_of_tiled _ S1024x8192.size (by rfl)), View.readAt_eq_ld, harg2.read_unread, View.ld_unit_lit _ _ (by decide), View.canon_cons_unit_lit _ _ _ (by decide)]
  · exact harg10.read_unread _

/-- One piece covers the result's block, -/
theorem cover7 (p : Vec F S1024x512 .bf16) (y : S1024x512.Idx) :
    ∃ pc ∈ ([⟨Rect.unit ![0, 0] S1024x512.size inb_S1024x512_S1024x512_0_0, p⟩] : List (View.Piece (Elt F) S1024x512 .bf16)), y ∈ pc.1.set :=
  View.cover_of_tiled _ S1024x512.size (by rfl) y
/-- and four the codes' block. -/
theorem cover8 (p0 p1 p2 p3 : Vec F S1024x128 .fp8e4m3) (y : S1024x512.Idx) :
    ∃ pc ∈ ([⟨Rect.unit ![0, 384] S1024x128.size inb_S1024x512_S1024x128_0_384, p3⟩, ⟨Rect.unit ![0, 256] S1024x128.size inb_S1024x512_S1024x128_0_256, p2⟩,
      ⟨Rect.unit ![0, 128] S1024x128.size inb_S1024x512_S1024x128_0_128, p1⟩, ⟨Rect.unit ![0, 0] S1024x128.size inb_S1024x512_S1024x128_0_0, p0⟩] : List (View.Piece (Elt F) S1024x512 .fp8e4m3)), y ∈ pc.1.set :=
  View.cover_of_tiled (s := S1024x512) [⟨Rect.unit ![0, 384] S1024x128.size inb_S1024x512_S1024x128_0_384, p3⟩, ⟨Rect.unit ![0, 256] S1024x128.size inb_S1024x512_S1024x128_0_256, p2⟩,
      ⟨Rect.unit ![0, 128] S1024x128.size inb_S1024x512_S1024x128_0_128, p1⟩, ⟨Rect.unit ![0, 0] S1024x128.size inb_S1024x512_S1024x128_0_0, p0⟩] S1024x128.size (by rfl) y

set_option maxHeartbeats 4000000 in
/-- The body's triple, with what it leaves in the buffers of its outputs found by the run. -/
def run (c : Dev nD) (i : grid1.Coords) (arg2 : Memref sig .tc .vmem S1024x8192 .fp8e4m3) (harg2 : arg2.IsWhole) (arg3 : Memref sig .tc .vmem S1024x1 .f32) (harg3 : arg3.IsWhole) (arg4 : Memref sig .tc .vmem S512x8192 .fp8e4m3) (harg4 : arg4.IsWhole) (arg5 : Memref sig .tc .vmem S512x256 .i8) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .fp8e4m3) (harg8 : arg8.IsWhole) (arg9 : Memref sig .tc .vmem S1024x768 .i8) (harg9 : arg9.IsWhole) (arg10 : Memref sig .tc .vmem S1024x8192 .bf16) (harg10 : arg10.IsWhole) (arg11 : Memref sig .tc .vmem S512x8192 .bf16) (harg11 : arg11.IsWhole)
    (x0 : Vec F S1024x8192 .fp8e4m3) (x1 : Vec F S1024x1 .f32) (x2 : Vec F S512x8192 .fp8e4m3) (x3 : Vec F S512x256 .i8) (x4 : Vec F S1024x512 .bf16) (d9 : Vec F S1024x768 .i8) (xb : Vec F S1024x8192 .bf16) :
      Σ' (o7 : Vec F S1024x512 .bf16) (o8 : Vec F S1024x512 .fp8e4m3), { o9 : Vec F S1024x768 .i8 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d9 ∗ owns (c : Thread nD τ) arg10 fullShare xb ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o7 ∗ owns (c : Thread nD τ) arg8 fullShare o8 ∗ owns (c : Thread nD τ) arg9 fullShare o9 ∗ owns (c : Thread nD τ) arg10 fullShare (keep i x0 xb) ∗ (∃ d, owns (c : Thread nD τ) arg11 fullShare d)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11) K } := by
    refine ⟨?_, ?_, ?_, fun E K => ?run⟩
    case run =>
    simp only [cc1_main_eq_skeleton]; unfold cc1_main_skel
    simp only [k1_part78_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf9; obtain rfl := harg10.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; swap; · iexact H7
      ipureintro; exact View.read_writes_eq_canon _ _ _ (cover7 (F := F) _)
    isplitl [H8]
    · iexists _; isplitr; swap; · iexact H8
      ipureintro; exact View.read_writes_eq_canon _ _ _ (cover8 (F := F) _ _ _ _)
    isplitl [H9]
    · iexists _; isplitr; swap; · iexact H9
      ipureintro; rfl
    isplitl [H10]
    · iexists _; isplitr; swap; · iexact H10
      ipureintro; exact keep_read i arg2 harg2 arg10 harg10 x0 xb
    iexists _, _; isplitr; swap; · iexact H11
    ipureintro; rfl

end Cert.Kernel.Body

end
-- ==== Proof.Ker.Obl.lean ====
/- The second call's body obligation, for any values: from a property `P` of the kept copy of the codes between grid points and a
   predicate `Rl` on what the output windows are left at, given that one run of the body keeps both. -/
module

public import proofs.«01_k».proof.Proof.Ker.Run
public import proofs.«01_k».proof.Proof.Ker.Body

@[expose] public section

set_option maxRecDepth 16384

noncomputable section

namespace Cert.Kernel.Obl

open Cert.Kernel Cert.Kernel.Gen Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-- Each window's current staging buffer at point `t`, and that it is whole. -/
abbrev ms0 (t : Fin cfg1.N) : Memref sig .tc .vmem S1024x8192 .fp8e4m3 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x8192 .fp8e4m3 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x256 .i8 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x512 .bf16 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x512 .fp8e4m3 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x768 .i8 := win1_7.stage (cfg1.slots t 7)
abbrev hs7 (t : Fin cfg1.N) : (ms7 t).IsWhole := hstage1_7 ((cfg1.slots t 7).cast nbuf1_7)
/-- The kept copy of the codes, and the scaled weights. -/
abbrev sc0 : Memref sig .tc .vmem S1024x8192 .bf16 := Memref.whole cc1_scratch0
abbrev sc1 : Memref sig .tc .vmem S512x8192 .bf16 := Memref.whole cc1_scratch1

/-- The scoped buffers the second call does not touch: the first call's staging buffers. -/
def other (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

-- what is known of the kept copy before each point, and what the output windows are held to
variable (P : (c : Dev nD) → ℕ → Vec F S1024x8192 .bf16 → Prop)
  (Rl : (c : Dev nD) → (w : Fin cfg1.W) → Fin cfg1.N → ((cfg1.win w).block.Idx → Elt F (cfg1.win w).elt) → Prop)

/-- The invariant between grid points: the untouched buffers, the kept copy at contents with `P`, the scaled weights at anything. -/
def Phi (c : Dev nD) (t : Fin (cfg1.N + 1)) : sProp (MT nD τ sig Unit (Elt F) ℕ (UR sig nD τ) ℕ) :=
  iprop(other c ∗ (∃ xb, ⌜P c t.val xb⌝ ∗ owns (c : Thread nD τ) sc0 fullShare xb) ∗ (∃ d, owns (c : Thread nD τ) sc1 fullShare d) ∗ (∃ r, prngReg c r))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ d, owns (c : Thread nD τ) sc0 fullShare d) ∗ (∃ d, owns (c : Thread nD τ) sc1 fullShare d)) ∗ (∃ r, prngReg c r)) := by
  unfold Pipeline.ΦA; rw [scopedRest1_eq]; simp only [sc0, sc1, owns_whole]; try rfl

/-- The class's invariant gives `Phi` before the first point, if `P` asks nothing there, -/
theorem Phi_zero (hP : ∀ c xb, P c 0 xb) (c : Dev nD) : (Pipeline.ΦA spec1 c : sProp 𝕄) ⊢ Phi P c 0 := by
  rw [PhiA_eq]; unfold Phi other
  iintro ⟨⟨H0, H1, H2, H3, H4, H5, ⟨%d, HS0⟩, HS1⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS0]
  · iexists d; isplitr; · ipureintro; exact hP c d
    iexact HS0
  isplitl [HS1]; · iexact HS1
  iexact Hg

/-- and `Phi` gives it back after the last. -/
theorem Phi_last (c : Dev nD) : Phi P c (Fin.last cfg1.N) ⊢ (Pipeline.ΦA spec1 c : sProp 𝕄) := by
  rw [PhiA_eq]; unfold Phi other
  iintro ⟨⟨H0, H1, H2, H3, H4, H5⟩, ⟨%d, -, HS0⟩, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [HS0]; · iexists d; iexact HS0
    iexact HS1
  iexact Hg

/-- One run of the body at point `t`, on the blocks there. -/
abbrev runAt (c : Dev nD) (t : Fin cfg1.N) (d9 : Vec F S1024x768 .i8) (xb : Vec F S1024x8192 .bf16) :=
  Body.run c (grid1.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _)
    (iblk m c 0 t) (iblk m c 1 t) (iblk m c 2 t) (iblk m c 3 t) (iblk m c 4 t) d9 xb

/-- What one run of the body must keep. -/
structure Step (c : Dev nD) (t : Fin cfg1.N) (d9 : Vec F S1024x768 .i8) (xb : Vec F S1024x8192 .bf16) : Prop where
  keep : P c (t.val + 1) (Body.keep (grid1.coords t) (iblk m c 0 t) xb)
  r5 : Rl c 5 t (runAt m c t d9 xb).1
  r6 : Rl c 6 t (runAt m c t d9 xb).2.1
  r7 : Rl c 7 t (runAt m c t d9 xb).2.2.1

/-- What the body is called with at point `t`, the windows one by one, -/
def bodyPre (c : Dev nD) (t : Fin cfg1.N) : sProp 𝕄 :=
  iprop((dat1 m (Phi P) c).Φ t.castSucc ∗ (dat1 m (Phi P) c).owesAt () t.castSucc
    ∗ (∃ d, owns (c : Thread nD τ) (ms0 t) fullShare ((dat1 m (Phi P) c).before 0 t d))
    ∗ (∃ d, owns (c : Thread nD τ) (ms1 t) fullShare ((dat1 m (Phi P) c).before 1 t d))
    ∗ (∃ d, owns (c : Thread nD τ) (ms2 t) fullShare ((dat1 m (Phi P) c).before 2 t d))
    ∗ (∃ d, owns (c : Thread nD τ) (ms3 t) fullShare ((dat1 m (Phi P) c).before 3 t d))
    ∗ (∃ d, owns (c : Thread nD τ) (ms4 t) fullShare ((dat1 m (Phi P) c).before 4 t d))
    ∗ (∃ Y, ⌜(rdat1 m (Phi P) Rl c).Finds 5 t Y⌝ ∗ owns (c : Thread nD τ) (ms5 t) fullShare Y)
    ∗ (∃ Y, ⌜(rdat1 m (Phi P) Rl c).Finds 6 t Y⌝ ∗ owns (c : Thread nD τ) (ms6 t) fullShare Y)
    ∗ (∃ Y, ⌜(rdat1 m (Phi P) Rl c).Finds 7 t Y⌝ ∗ owns (c : Thread nD τ) (ms7 t) fullShare Y))

/-- and what it returns. -/
def bodyPost (c : Dev nD) (t : Fin cfg1.N) : sProp 𝕄 :=
  iprop((dat1 m (Phi P) c).Φ t.succ ∗ (dat1 m (Phi P) c).owesAt () t.succ
    ∗ owns (c : Thread nD τ) (ms0 t) fullShare ((dat1 m (Phi P) c).after 0 t)
    ∗ owns (c : Thread nD τ) (ms1 t) fullShare ((dat1 m (Phi P) c).after 1 t)
    ∗ owns (c : Thread nD τ) (ms2 t) fullShare ((dat1 m (Phi P) c).after 2 t)
    ∗ owns (c : Thread nD τ) (ms3 t) fullShare ((dat1 m (Phi P) c).after 3 t)
    ∗ owns (c : Thread nD τ) (ms4 t) fullShare ((dat1 m (Phi P) c).after 4 t)
    ∗ (∃ X, ⌜Rl c 5 t X⌝ ∗ owns (c : Thread nD τ) (ms5 t) fullShare X)
    ∗ (∃ X, ⌜Rl c 6 t X⌝ ∗ owns (c : Thread nD τ) (ms6 t) fullShare X)
    ∗ (∃ X, ⌜Rl c 7 t X⌝ ∗ owns (c : Thread nD τ) (ms7 t) fullShare X))

set_option maxHeartbeats 1600000 in
/-- The body at any point. -/
theorem sound_body (c : Dev nD) (t : Fin cfg1.N)
    (h : ∀ d9 xb, P c t.val xb → (rdat1 m (Phi P) Rl c).Finds 7 t d9 → Step m P Rl c t d9 xb) :
    bodyPre m P Rl c t ⊢ wp frame (wpE (defs₀ (F := F)) Variants.none c none) Set.univ (bodyAt1 t) (fun _ => bodyPost m P Rl c t) := by
  unfold bodyPre bodyPost bodyAt1
  simp only [before1_0, before1_1, before1_2, before1_3, before1_4]
  rw [show (dat1 m (Phi P) c).owesAt () t.succ = (dat1 m (Phi P) c).owesAt () t.castSucc from rfl,
    after1_0, after1_1, after1_2, after1_3, after1_4,
    show (dat1 m (Phi P) c).Φ t.castSucc = Phi P c t.castSucc from rfl, show (dat1 m (Phi P) c).Φ t.succ = Phi P c t.succ from rfl]
  unfold Phi
  iintro ⟨⟨Hoth, ⟨%xb, %hxb, HS0⟩, HS1, Hg⟩, Ho, ⟨%d0, H0⟩, ⟨%d1, H1⟩, ⟨%d2, H2⟩, ⟨%d3, H3⟩, ⟨%d4, H4⟩, ⟨%d5, -, H5⟩, ⟨%d6, -, H6⟩, ⟨%d7, %hd7, H7⟩⟩
  have hst := h d7 xb hxb hd7
  iapply ((runAt m c t d7 xb).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [Hoth HS0 HS1 Hg]
  · isplitl [Hoth]; · iexact Hoth
    isplitl [HS0]
    · iexists _; isplitr; swap; · iexact HS0
      ipureintro; exact hst.keep
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact hst.r5
  isplitl [H6]
  · iexists _; isplitr; swap; · iexact H6
    ipureintro; exact hst.r6
  iexists _; isplitr; swap; · iexact H7
  ipureintro; exact hst.r7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The pipeline's body obligation, at every point. -/
theorem body_obligation (c : Dev nD)
    (h : ∀ t d9 xb, P c t.val xb → (rdat1 m (Phi P) Rl c).Finds 7 t d9 → Step m P Rl c t d9 xb) :
    BodyObligationRel (dat1 m (Phi P) c) (defs₀ (F := F)) Variants.none () Set.univ outWin (Rl c) := fun t => by
  rw [bigSep_W1, bigSep_W1, defs₀_row]
  exact triple_restated (sound_body m P Rl c t (h t)) rfl .rfl fun _ => .rfl

/-- The run from what one body run keeps: termination, the final contents and the counters (`Run.run`). -/
theorem run (ρ : Dev nD → PrngReg) (hP : ∀ c xb, P c 0 xb)
    (h : ∀ c t d9 xb, P c t.val xb → (rdat1 m (Phi P) Rl c).Finds 7 t d9 → Step m P Rl c t d9 xb) :
    θ_run defs (onTc (τ := τ) (main (F := F))) ⟨m, fun _ => 0, ρ⟩ (fun r => (∀ c, QY m (Phi P) Rl c r.2) ∧ r.2.sem = fun _ => 0) :=
  Run.run m ρ (Phi P) Rl (fun c => body_obligation m P Rl c (h c)) (Phi_zero P hP) (Phi_last P)

end Cert.Kernel.Obl

end
-- ==== Proof.Ker.Frame.lean ====
/- The frame: every run terminates, leaves the arguments as they were and every semaphore counter at zero. -/
module

public import proofs.«01_k».proof.Proof.Ker.Obl
public import Idealize.ShloMosaic.Lib.StableHlo.RunHlo

@[expose] public section

set_option maxRecDepth 16384

noncomputable section

namespace Cert.Kernel.Obl

open Cert.Kernel Cert.Kernel.Gen Cert.Kernel.Run
open Idealize.ShloMosaic Idealize.ShloMosaic.TcCoe
open Idealize.SL Idealize.SL.Sem

variable {F : FTy → Type} [FloatOps F]
variable (m : (ℓ : Loc nD τ sig) → Buf (Elt F) ℓ)
variable (P : (c : Dev nD) → ℕ → Vec F S1024x8192 .bf16 → Prop)
  (Rl : (c : Dev nD) → (w : Fin cfg1.W) → Fin cfg1.N → ((cfg1.win w).block.Idx → Elt F (cfg1.win w).elt) → Prop)

/-- The arguments as a run of the program leaves them: as they were. -/
theorem QY_args {c : Dev nD} {s : MemSt nD τ sig (Elt F)} (h : QY m (Phi P) Rl c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3) := by
  refine ⟨h.2.1, ?_, ?_, h.2.2⟩
  · have h2 := h.1 2
    rw [Pipeline.RDat.ArrAt_in _ 2 rfl] at h2
    refine (show s.mem ((c : Thread nD τ).loc main_arg1) = _ from h2).trans ?_
    exact (A1_eq m (Phi P) c 2).trans (W3_arg m c main_arg1 (by decide) (by decide) (by decide))
  · have h2 := h.1 3
    rw [Pipeline.RDat.ArrAt_in _ 3 rfl] at h2
    refine (show s.mem ((c : Thread nD τ).loc main_arg2) = _ from h2).trans ?_
    exact (A1_eq m (Phi P) c 3).trans (W3_arg m c main_arg2 (by decide) (by decide) (by decide))

end Cert.Kernel.Obl

namespace Cert.Kernel.Frame

open Cert.Kernel Cert.Kernel.Gen Cert.Kernel.Run
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (Obl.run m (fun _ _ _ => True) (fun _ _ _ _ => True) ρ (fun _ _ => trivial) fun _ _ _ _ _ _ => ⟨trivial, trivial, trivial, trivial⟩)
    fun r h => ⟨fun c => Obl.QY_args m (fun _ _ _ => True) (fun _ _ _ _ => True) (h.1 c), h.2⟩

end Cert.Kernel.Frame

end
-- ==== Proof.KerIdeal.Quant.lean ====
/- The first kernel call (the row quantiser `quant_x`): what its body leaves in its two output windows, for any values, the proof
   data of its pipeline from any contents `V` of the arrays at entry, and the body obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the arrays when the call is entered
variable (V : (c : Dev nD) → (b : Ref sig .tc) → Buf (Elt F) ((c : Thread nD τ).loc b))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x8192 := Rect.unit (s := S128x8192) ![0, 0] S128x8192.size inb_S128x8192_S128x8192_0_0
abbrev r0_1 : Rect S128x1 := Rect.unit (s := S128x1) ![0, 0] S128x1.size inb_S128x1_S128x1_0_0

/-! ## What the body leaves in each output window's buffer -/

/-! ### Values of the body that the stores' payloads, spelt out, would write more than once

    Each is a vector the body binds (often a part call's result), stated over the input windows' blocks and
    numbered on from the skeleton's payload functions (`val0_pay10` …, after `k0_pay9`), so that
    `out0_W` and the values after it name it instead of spelling it out (`unfold_out out0_W` opens a canon
    with them, `unfold_payloads` opens them with the payloads); the comment after each is the printed function's
    name for the value (a count appended where that name is bound again). -/

def val0_pay10 (x0 : Vec F S128x8192 .bf16) : FVec F S128x1 .f32 :=
  k0_pay5 (View.ld x0 r0_0) -- `v5`
def val0_pay11 (x0 : Vec F S128x8192 .bf16) : IVec S128x1 32 :=
  k0_pay6 (View.ld x0 r0_0) -- `v39`
def val0_pay12 (x0 : Vec F S128x8192 .bf16) : IVec S128x1 32 :=
  k0_pay7 (View.ld x0 r0_0) -- `v41`
def val0_pay13 (x0 : Vec F S128x8192 .bf16) : IVec S128x1 32 :=
  k0_pay8 (val0_pay10 x0) (val0_pay11 x0) (val0_pay12 x0) -- `v83`
def val0_pay14 (x0 : Vec F S128x8192 .bf16) : IVec S128x1 32 :=
  k0_pay9 (val0_pay10 x0) (val0_pay11 x0) (val0_pay12 x0) -- `v85`

/-- Window 1's staging buffer after the body, from the input windows' blocks: its 1 store as pieces, LAST
    FIRST. -/
def out0_1 (x0 : Vec F S128x8192 .bf16) : Vec F S128x8192 .fp8e4m3 :=
  View.canon [⟨r0_0, k0_pay2 (k0_pay4 (View.ld x0 r0_0)) (val0_pay10 x0) (val0_pay13 x0) (val0_pay14 x0)⟩]

/-- Its stores tile the buffer (checked by evaluation), so they cover it. -/
theorem cover0_1 (p0 : Vec F S128x8192 .fp8e4m3) (y : S128x8192.Idx) :
    ∃ pc ∈ ([⟨r0_0, p0⟩] : List (View.Piece (Elt F) S128x8192 .fp8e4m3)), y ∈ pc.1.set :=
  View.cover_of_tiled [⟨r0_0, p0⟩] S128x8192.size (by rfl) y

/-- Window 2's staging buffer after the body, from the input windows' blocks: its 1 store as pieces, LAST
    FIRST. -/
def out0_2 (x0 : Vec F S128x8192 .bf16) : Vec F S128x1 .f32 :=
  View.canon [⟨r0_1, k0_pay3 (val0_pay10 x0) (val0_pay13 x0) (val0_pay14 x0)⟩]

/-- Its stores tile the buffer (checked by evaluation), so they cover it. -/
theorem cover0_2 (p0 : Vec F S128x1 .f32) (y : S128x1.Idx) :
    ∃ pc ∈ ([⟨r0_1, p0⟩] : List (View.Piece (Elt F) S128x1 .f32)), y ∈ pc.1.set :=
  View.cover_of_tiled [⟨r0_1, p0⟩] S128x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel (c : Dev nD) (E : Set ℕ) (i : grid0.Coords) (arg1 : Memref sig .tc .vmem S128x8192 .bf16) (harg1 : arg1.IsWhole) (arg2 : Memref sig .tc .vmem S128x8192 .fp8e4m3) (harg2 : arg2.IsWhole) (arg3 : Memref sig .tc .vmem S128x1 .f32) (harg3 : arg3.IsWhole)
    (x0 : Vec F S128x8192 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of the one pipeline on core `c`: the arrays as the region finds them (`V`); after the body at
    point `t` each input's buffer at its block and each output's at `out0_W` of the input blocks; the invariant the
    class's ; nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out0_1 (iblk V c 0 t)
    | ⟨2, _⟩ => out0_2 (iblk V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = out0_1 (iblk V c 0 t) := by dsimp only [dat]
theorem after0_2 (c : Dev nD) (t : Fin cfg0.N) : (dat V c).after 2 t = out0_2 (iblk V c 0 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` , -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Quant

end
-- ==== Proof.KerIdeal.Run.lean ====
/- The run of the whole program, two kernel calls with a reshape before each, for any values. The first call's pipeline has exact
   proof data (Quant.lean). The second call's is taken from outside: any predicate `Rl` on what its body leaves in its three output
   windows and any invariant `Phi` between its grid points, given the body obligation. The conclusion: the arguments end as launched,
   the first call's two results are what its pipeline's data name, and each result of the second call is written back from contents
   that meet `Rl`; every semaphore ends at zero. -/
module

public import proofs.«01_k».proof.Proof.KerIdeal.Quant
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop
public import Idealize.ShloMosaic.Lib.Pipeline.RegionArrays
public import Idealize.ShloMosaic.Lib.Pipeline.DatRel
public import Idealize.ShloMosaic.Lib.Pipeline.ArrRel

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the arrays between the steps -/

/-- The first call's proof data, its arrays at what the first reshape leaves. -/
abbrev dat0 (c : Dev nD) : Dat τ (Elt F) Unit ℕ (UR sig nD τ) ℕ cfg0 c := Quant.dat (fun c b => V1 m c b) c

/-- The codes the first call leaves. -/
abbrev codes (c : Dev nD) : Buf (Elt F) ((c : Thread nD τ).loc main_v1_0) := (dat0 m c).arrAt 1 cfg0.N
/-- The scales the first call leaves. -/
abbrev scales (c : Dev nD) : Buf (Elt F) ((c : Thread nD τ).loc main_v1_1) := (dat0 m c).arrAt 2 cfg0.N

/-- The unscoped buffers after the first call, -/
abbrev W2 (c : Dev nD) : Valuation τ sig (Elt F) := Function.update (Function.update (V1 m c) main_v1_0 (codes m c)) main_v1_1 (scales m c)
/-- and after the second reshape. -/
abbrev W3 (c : Dev nD) : Valuation τ sig (Elt F) := StableHlo.after hostOps1 (W2 m c)

theorem W2_of (c : Dev nD) (r : Ref sig .tc) (h : r ∉ ([main_v1_0, main_v1_1] : List (Ref sig .tc))) : W2 m c r = V1 m c r := by
  simp only [W2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem W2_codes (c : Dev nD) : W2 m c main_v1_0 = codes m c := by
  rw [W2, Function.update_of_ne (StableHlo.devRef_ne_of_ne (by decide) : (Proc.devRef .tc main_v1_0 : DevRef τ sig) ≠ Proc.devRef .tc main_v1_1), Function.update_self]
theorem W2_scales (c : Dev nD) : W2 m c main_v1_1 = scales m c := by
  rw [W2, Function.update_self]
theorem W3_of (c : Dev nD) (r : Ref sig .tc) (h : r ∉ hostOps1_W) : W3 m c r = W2 m c r :=
  StableHlo.after_of_writes_sub hostOps1 _ hostOps1_writes h
theorem W3_codes (c : Dev nD) : W3 m c main_v1_0 = codes m c := (W3_of m c _ (by decide)).trans (W2_codes m c)
theorem W3_scales (c : Dev nD) : W3 m c main_v1_1 = scales m c := (W3_of m c _ (by decide)).trans (W2_scales m c)
theorem W3_arg (c : Dev nD) (r : Ref sig .tc) (h₁ : r ∉ hostOps1_W) (h₂ : r ∉ ([main_v1_0, main_v1_1] : List (Ref sig .tc))) (h₃ : r ∉ hostOps0_W) :
    W3 m c r = m ((c : Thread nD τ).loc r) :=
  (W3_of m c r h₁).trans ((W2_of m c r h₂).trans ((V1_of m c r h₃).trans rfl))

/-! ## The second call's data -/

/-- The second call's three output windows. -/
def outWin : Fin 8 → Bool := fun w => w.val == 5 || w.val == 6 || w.val == 7

/-- The block of window `w` at point `t`, read off its array as the second call finds it. -/
def iblk (c : Dev nD) (w : Fin cfg1.W) (t : Fin cfg1.N) : ((cfg1.win w).xblock (cfg1.grid.coords t)).Idx → Elt F (cfg1.win w).elt :=
  ((cfg1.win w).blk t).view.read (Elt F) (W3 m c (Pipeline.arrRef spec1 w))

-- the invariant between the second call's points, and the predicate on what its body leaves in the output windows
variable (Phi : (c : Dev nD) → Fin (cfg1.N + 1) → sProp (MT nD τ sig Unit (Elt F) ℕ (UR sig nD τ) ℕ))
  (Rl : (c : Dev nD) → (w : Fin cfg1.W) → Fin cfg1.N → ((cfg1.win w).block.Idx → Elt F (cfg1.win w).elt) → Prop)

/-- The second call's proof data: the arrays as found, the input windows' buffers at their blocks. -/
def dat1 (c : Dev nD) : Dat τ (Elt F) Unit ℕ (UR sig nD τ) ℕ cfg1 c where
  A w := W3 m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg1) ⟨5, h⟩ t
    | ⟨6, h⟩ => Pipeline.Dat.unnamed (cfg := cfg1) ⟨6, h⟩ t
    | ⟨7, h⟩ => Pipeline.Dat.unnamed (cfg := cfg1) ⟨7, h⟩ t
  Φ := Phi c
  q _ := fullShare
  owed _ := 0

theorem A1_eq (c : Dev nD) (w : Fin cfg1.W) : (dat1 m Phi c).A w = W3 m c (Pipeline.arrRef spec1 w) := by dsimp only [dat1]
theorem after1_0 (c : Dev nD) (t : Fin cfg1.N) : (dat1 m Phi c).after 0 t = iblk m c 0 t := by dsimp only [dat1]
theorem after1_1 (c : Dev nD) (t : Fin cfg1.N) : (dat1 m Phi c).after 1 t = iblk m c 1 t := by dsimp only [dat1]
theorem after1_2 (c : Dev nD) (t : Fin cfg1.N) : (dat1 m Phi c).after 2 t = iblk m c 2 t := by dsimp only [dat1]
theorem after1_3 (c : Dev nD) (t : Fin cfg1.N) : (dat1 m Phi c).after 3 t = iblk m c 3 t := by dsimp only [dat1]
theorem after1_4 (c : Dev nD) (t : Fin cfg1.N) : (dat1 m Phi c).after 4 t = iblk m c 4 t := by dsimp only [dat1]

/-- Each input window's buffer holds its block when the body runs, fetched at that point or not. -/
theorem before1_0 (c : Dev nD) (t : Fin cfg1.N) (d) : (dat1 m Phi c).before 0 t d = iblk m c 0 t :=
  ((dat1 m Phi c).before_in_eq_fetched 0 rfl (fun _ => rfl) (fun _ _ _ => rfl) (fun t => by rw [after1_0]; unfold Dat.blockOf iblk; rw [A1_eq]; try rfl) t d).trans
    (by unfold Dat.fetched Dat.blockOf iblk; rw [A1_eq]; try rfl)
theorem before1_1 (c : Dev nD) (t : Fin cfg1.N) (d) : (dat1 m Phi c).before 1 t d = iblk m c 1 t :=
  ((dat1 m Phi c).before_in_eq_fetched 1 rfl (fun _ => rfl) (fun _ _ _ => rfl) (fun t => by rw [after1_1]; unfold Dat.blockOf iblk; rw [A1_eq]; try rfl) t d).trans
    (by unfold Dat.fetched Dat.blockOf iblk; rw [A1_eq]; try rfl)
theorem before1_2 (c : Dev nD) (t : Fin cfg1.N) (d) : (dat1 m Phi c).before 2 t d = iblk m c 2 t :=
  ((dat1 m Phi c).before_in_eq_fetched 2 rfl (fun _ => rfl) (fun _ _ _ => rfl) (fun t => by rw [after1_2]; unfold Dat.blockOf iblk; rw [A1_eq]; try rfl) t d).trans
    (by unfold Dat.fetched Dat.blockOf iblk; rw [A1_eq]; try rfl)
theorem before1_3 (c : Dev nD) (t : Fin cfg1.N) (d) : (dat1 m Phi c).before 3 t d = iblk m c 3 t :=
  ((dat1 m Phi c).before_in_eq_fetched 3 rfl (fun _ => rfl) (fun _ _ _ => rfl) (fun t => by rw [after1_3]; unfold Dat.blockOf iblk; rw [A1_eq]; try rfl) t d).trans
    (by unfold Dat.fetched Dat.blockOf iblk; rw [A1_eq]; try rfl)
theorem before1_4 (c : Dev nD) (t : Fin cfg1.N) (d) : (dat1 m Phi c).before 4 t d = iblk m c 4 t :=
  ((dat1 m Phi c).before_in_eq_fetched 4 rfl (fun _ => rfl) (fun _ _ _ => rfl) (fun t => by rw [after1_4]; unfold Dat.blockOf iblk; rw [A1_eq]; try rfl) t d).trans
    (by unfold Dat.fetched Dat.blockOf iblk; rw [A1_eq]; try rfl)

/-- The second call's data with the output windows held to `Rl`. -/
abbrev rdat1 (c : Dev nD) : RDat τ (Elt F) Unit ℕ (UR sig nD τ) ℕ cfg1 c := (dat1 m Phi c).toRRel outWin (Rl c)

/-- Both calls' exact data, -/
abbrev pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m Phi c
/-- and the relational data the run is taken over. -/
abbrev rdats : (p : Fin 2) → (c : Dev nD) → RDat τ (Elt F) Unit ℕ (UR sig nD τ) ℕ (Pipeline.pin (pcfgs (F := F)) adm p) c
  | ⟨0, _⟩ => fun c => (dat0 m c).toR
  | ⟨1, _⟩ => fun c => rdat1 m Phi Rl c

/-! ## @main as segments -/

/-- No core owes another anything: no level is assigned. -/
abbrev L : GSem nD τ sig → Finset Unit := fun _ => ∅
abbrev lv : GSem nD τ sig → Unit → ℕ := fun _ _ => 0

/-- What rides beside the buffers: the generator register and the core's dues, none. -/
abbrev E (c : Dev nD) : sProp 𝕄 := iprop((∃ r, prngReg c r) ∗ ∃ W, owes (c : Thread nD τ) (0 : CellTallies nD τ sig Unit) W)

/-- The first reshape. -/
def hseg0 : Pipeline.HostSeg (Ix := Unit) (Name := ℕ) (U := UR sig nD τ) (Lvl := ℕ) (pcfgs (F := F)) defs₀ Variants.none L lv :=
  seg0 m Variants.none L lv (fun _ => E)

/-- The second reshape. -/
def hseg2 : Pipeline.HostSeg (Ix := Unit) (Name := ℕ) (U := UR sig nD τ) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E

-- a lemma stated over `cfgs p` applies at the pinned configuration only when unification may unfold plain definitions in a
-- metavariable's type
set_option backward.isDefEq.respectTransparency.types false in
/-- The first call: entered with every unscoped buffer at `V1`, left with them at `W2`. -/
def reg0 : RDat.RegionSeg (pcfgs (F := F)) adm (rdats m Phi Rl) () defs₀ Variants.none L lv 0 where
  win := launch0.win.to₀
  block_pos := launch0.block_pos
  stage_whole := launch0.stage_whole
  K := PEmpty
  osem k := k.elim
  ho := Pipeline.OwnSemFacts.none _
  hbody c := (Quant.body_obligation (fun c b => V1 m c b) c).toR
  hwaits := RDat.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (W2 m c) ∗ E c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none, ← Pipeline.unscopedBufs_held]
    have hsplit := RDat.arrays_of_unscopedBufs (p := 0) (pcfgs (F := F)) adm (rdats m Phi Rl) launch0.win launch0.arr_whole c
      ((dat0 m c).share_full fun _ => rfl) (fun b => V1 m c b) (Quant.A_eq (fun c b => V1 m c b) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp] <;> iassumption
  hin c := by
    rw [show (rdats m Phi Rl 0 c).Φ 0 = Pipeline.ΦA spec0 c from rfl]; unfold Pipeline.ΦA
    iintro ⟨Hp, -, Hr⟩
    isplitl [Hr] <;> iassumption
  hout c := by
    rw [Pipeline.ownSems0_none, show (rdats m Phi Rl 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m Phi) ((dat0 m c).share_full fun _ => rfl) (fun b => V1 m c b) (fun b => W2 m c b) ((dat0 m c).arrAt · cfg0.N)
      (fun w => by
        fin_cases w
        · exact ((dat0 m c).arrAt_in 0 rfl _).trans (W2_of m c main_v0 (by decide)).symm
        · exact (W2_codes m c).symm
        · exact (W2_scales m c).symm)
      (fun b hb => W2_of m c b fun h => hb (by
        rcases List.mem_cons.mp h with rfl | h
        · exact Finset.mem_image.mpr ⟨1, Finset.mem_univ _, rfl⟩
        · obtain rfl := List.mem_singleton.mp h
          exact Finset.mem_image.mpr ⟨2, Finset.mem_univ _, rfl⟩))
    have harr : (rdats m Phi Rl 0 c).arraysAt (Pipeline.pin (pcfgs (F := F)) adm 0).N ⊢ ((dat0 m c).arrays ((dat0 m c).arrAt · cfg0.N) : sProp 𝕄) :=
      (dat0 m c).toR_arraysAt_post cfg0.N
    rw [← Pipeline.unscopedBufs_held]
    iintro ⟨Ha, HO, Hp, Hrest⟩
    ihave Ha := harr $$ Ha
    imodintro
    isplitl [Ha Hrest]
    · iapply hjoin; isplitl [Ha] <;> iassumption
    isplitl [Hp]; · iexact Hp
    unfold Pipeline.RDat.owesAt Pipeline.owesWithin
    icases HO with ⟨%W, -, HO⟩; iexists W; iexact HO

/-- What the second call leaves: its arrays, each at contents it may then hold, and the buffers it does not touch. -/
abbrev Tn (c : Dev nD) : sProp 𝕄 :=
  iprop((rdat1 m Phi Rl c).arraysAt cfg1.N
    ∗ Pipeline.unscopedRest (Ix := Unit) (Name := ℕ) (U := UR sig nD τ) (Lvl := ℕ) spec1 c (fun b => W3 m c b) ∗ (∃ r, prngReg c r))

-- as at `reg0`
set_option backward.isDefEq.respectTransparency.types false in
/-- The second call: entered with every unscoped buffer at `W3`, left with `Tn`. -/
def reg1 (hbody : ∀ c, BodyObligationRel (dat1 m Phi c) (defs₀ (F := F)) Variants.none () Set.univ outWin (Rl c))
    (hPhi0 : ∀ c, (Pipeline.ΦA spec1 c : sProp 𝕄) ⊢ Phi c 0) (hPhiN : ∀ c, Phi c (Fin.last cfg1.N) ⊢ (Pipeline.ΦA spec1 c : sProp 𝕄)) :
    RDat.RegionSeg (pcfgs (F := F)) adm (rdats m Phi Rl) () defs₀ Variants.none L lv 1 where
  win := launch1.win.to₀
  block_pos := launch1.block_pos
  stage_whole := launch1.stage_whole
  K := PEmpty
  osem k := k.elim
  ho := Pipeline.OwnSemFacts.none _
  hbody c := (hbody c).toRRel
  hwaits := RDat.hwaits_of_owed_zero _ _ _ _ L lv 1 fun _ _ => rfl
  pre c := iprop(StableHlo.held (c : Thread nD τ) (Pipeline.ucRefs τ sig) (W3 m c) ∗ E c)
  post c := iprop(Tn m Phi Rl c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := by
    rw [Pipeline.ownSems0_none, ← Pipeline.unscopedBufs_held]
    have hsplit := RDat.arrays_of_unscopedBufs (p := 1) (pcfgs (F := F)) adm (rdats m Phi Rl) launch1.win launch1.arr_whole c
      ((dat1 m Phi c).share_full fun _ => rfl) (fun b => W3 m c b) (A1_eq m Phi c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp] <;> iassumption
  hin c := by
    refine BIBase.Entails.trans ?_ (hPhi0 c); unfold Pipeline.ΦA
    iintro ⟨Hp, -, Hr⟩
    isplitl [Hr] <;> iassumption
  hout c := by
    rw [Pipeline.ownSems0_none]; refine BIBase.Entails.trans (hPhiN c) ?_; unfold Pipeline.ΦA
    iintro ⟨Hr, Hp⟩
    isplitl [Hp]; · iexact Hp
    isplitr; · iempintro
    iexact Hr
  hexit c := by
    iintro ⟨Ha, HO, Hp, Hrest⟩
    imodintro
    isplitr [HO]
    · isplitl [Ha]; · iexact Ha
      isplitl [Hrest] <;> iassumption
    unfold Pipeline.RDat.owesAt Pipeline.owesWithin
    icases HO with ⟨%W, -, HO⟩; iexists W; iexact HO

/-- What a final state holds on core `c`. -/
def QY (c : Dev nD) (s : MemSt nD τ sig (Elt F)) : Prop :=
  (∀ w : Fin cfg1.W, (rdat1 m Phi Rl c).ArrAt w cfg1.N (s.mem ((cfg1.win w).arr.view.loc (c : Thread nD τ))))
    ∧ s.mem ((c : Thread nD τ).loc main_arg0) = m ((c : Thread nD τ).loc main_arg0)
    ∧ s.mem ((c : Thread nD τ).loc main_arg3) = m ((c : Thread nD τ).loc main_arg3)

-- as at `reg0`
set_option backward.isDefEq.respectTransparency.types false in
/-- Every weakly fair execution from memory `m` with zero counters terminates, in a state that holds `QY` on every core and has
    every semaphore counter at zero. -/
theorem run (hbody : ∀ c, BodyObligationRel (dat1 m Phi c) (defs₀ (F := F)) Variants.none () Set.univ outWin (Rl c))
    (hPhi0 : ∀ c, (Pipeline.ΦA spec1 c : sProp 𝕄) ⊢ Phi c 0) (hPhiN : ∀ c, Phi c (Fin.last cfg1.N) ⊢ (Pipeline.ΦA spec1 c : sProp 𝕄)) :
    θ_run defs (onTc (τ := τ) (main (F := F))) ⟨m, fun _ => 0, ρ⟩ (fun r => (∀ c, QY m Phi Rl c r.2) ∧ r.2.sem = fun _ => 0) := by
  refine RDat.θ_run_regions_kit_sems (pcfgs (F := F)) adm (rdats m Phi Rl) () cellOf_inj (emb₁ : Emb (UR sig nD τ) 𝕄) defs₀ Variants.none L lv m ρ main
    [.host (hseg0 m), .region (reg0 m Phi Rl), .host (hseg2 m), .region (reg1 m Phi Rl hbody hPhi0 hPhiN)]
    (fun c Q => by
      rewrite [main_chain c, RDat.Seg.run_eq_chain]
      exact .rfl)
    (by simp only [RDat.Seg.pipes_host, RDat.Seg.pipes_region, RDat.Seg.pipes_nil]; decide) (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ E c)) (Tₙ := Tn m Phi Rl)
    (hch := ⟨fun _ => .rfl, fun _ => .rfl, fun _ => .rfl, fun _ => .rfl, fun _ => .rfl⟩)
    (hinit := ?_) (QY := QY m Phi Rl) (hfin := fun c s' => ?_)
    (hQ := fun _ h hz => ⟨h, funext fun g => hz g (.inr (regions_no_unscoped g.2))⟩)
  · rw [ownU_emb₁]
    iintro HP
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · dsimp only [Tn]; rw [unscopedRest1_eq, W3_arg m c main_arg0 (by decide) (by decide) (by decide), W3_arg m c main_arg3 (by decide) (by decide) (by decide)]
    iintro ⟨⟨Ha, ⟨H0, H3, -⟩, -⟩, HSI⟩
    icombine HSI H0 gives %h0
    icombine HSI H3 gives %h3
    ihave Hr := (RDat.arrays_read (p := 1) (pcfgs (F := F)) adm (rdats m Phi Rl) launch1.arr_whole c cfg1.N s') $$ [Ha HSI]
    · isplitl [Ha] <;> iassumption
    icases Hr with ⟨%ha, HSI⟩
    imodintro
    isplitr; · ipureintro; exact ⟨ha, Buf.eq_of_forall_mem_univ h0, Buf.eq_of_forall_mem_univ h3⟩
    iexact HSI

end Cert.KernelIdeal.Run

end
-- ==== Proof.KerIdeal.Body.lean ====
/- One run of the second call's body, for any values and on any staging buffers: what it leaves in its three output buffers and in
   its kept copy of the codes, as functions of what it finds. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the body runs at the first point of its row of the grid. -/
abbrev cond (i : grid1.Coords) : Prop := (Scalar.cmpi .ne (Scalar.extui (Scalar.cmpi .eq (BitVec.ofNat 32 (i 1).val) 0#32)) 0#32) = 1#1

/-- It does at the points divisible by 48. -/
theorem cond_iff : ∀ t : Fin cfg1.N, cond (grid1.coords t) ↔ t.val % 48 = 0 :=
  (fun t => by
    have ht : t.val < 384 := Nat.lt_of_lt_of_eq t.isLt N_1
    have e0 : (grid1.coords t 0).val = t.val / 48 % 8 := Pipeline.Grid.coords_val t 0 (by decide) rfl
    have e1 : (grid1.coords t 1).val = t.val / 1 % 48 := Pipeline.Grid.coords_val t 1 (by decide) rfl
    simp only [cond, e0, e1]
    word_cmp
   : ∀ t : Fin grid1.N, cond (grid1.coords t) ↔ t.val % 48 = 0)

/-- The kept copy of the codes after the body's first step: the block's codes at the first point of a row, else as it was. -/
def keep (i : grid1.Coords) (x0 : Vec F S1024x8192 .fp8e4m3) (xb : Vec F S1024x8192 .bf16) : Vec F S1024x8192 .bf16 :=
  open Classical in if cond i then k1_pay2 x0 else xb

/-- What the branch leaves in the kept copy's buffer reads as `keep`. -/
theorem keep_read (i : grid1.Coords) (arg2 : Memref sig .tc .vmem S1024x8192 .fp8e4m3) (harg2 : arg2.IsWhole) (arg10 : Memref sig .tc .vmem S1024x8192 .bf16) (harg10 : arg10.IsWhole)
    (x0 : Vec F S1024x8192 .fp8e4m3) (xb : Vec F S1024x8192 .bf16) :
    arg10.view.read (Elt F) (if hc : cond i then
      arg10.view.writes (Elt F) (harg10.unread xb)
        [⟨Rect.unit ![0, 0] S1024x8192.size inb_S1024x8192_S1024x8192_0_0,
            k1_pay2 (View.readAt (Elt F) arg2.view (Rect.unit ![0, 0] S1024x8192.size inb_S1024x8192_S1024x8192_0_0).toLoadRect (harg2.unread x0))⟩]
      else harg10.unread xb) = keep i x0 xb := by
  unfold keep
  split
  · rw [View.read_writes_eq_canon _ _ _ (View.cover_of_tiled _ S1024x8192.size (by rfl)), View.readAt_eq_ld, harg2.read_unread, View.ld_unit_lit _ _ (by decide), View.canon_cons_unit_lit _ _ _ (by decide)]
  · exact harg10.read_unread _

/-- One piece covers the result's block, -/
theorem cover7 (p : Vec F S1024x512 .bf16) (y : S1024x512.Idx) :
    ∃ pc ∈ ([⟨Rect.unit ![0, 0] S1024x512.size inb_S1024x512_S1024x512_0_0, p⟩] : List (View.Piece (Elt F) S1024x512 .bf16)), y ∈ pc.1.set :=
  View.cover_of_tiled _ S1024x512.size (by rfl) y
/-- and four the codes' block. -/
theorem cover8 (p0 p1 p2 p3 : Vec F S1024x128 .fp8e4m3) (y : S1024x512.Idx) :
    ∃ pc ∈ ([⟨Rect.unit ![0, 384] S1024x128.size inb_S1024x512_S1024x128_0_384, p3⟩, ⟨Rect.unit ![0, 256] S1024x128.size inb_S1024x512_S1024x128_0_256, p2⟩,
      ⟨Rect.unit ![0, 128] S1024x128.size inb_S1024x512_S1024x128_0_128, p1⟩, ⟨Rect.unit ![0, 0] S1024x128.size inb_S1024x512_S1024x128_0_0, p0⟩] : List (View.Piece (Elt F) S1024x512 .fp8e4m3)), y ∈ pc.1.set :=
  View.cover_of_tiled (s := S1024x512) [⟨Rect.unit ![0, 384] S1024x128.size inb_S1024x512_S1024x128_0_384, p3⟩, ⟨Rect.unit ![0, 256] S1024x128.size inb_S1024x512_S1024x128_0_256, p2⟩,
      ⟨Rect.unit ![0, 128] S1024x128.size inb_S1024x512_S1024x128_0_128, p1⟩, ⟨Rect.unit ![0, 0] S1024x128.size inb_S1024x512_S1024x128_0_0, p0⟩] S1024x128.size (by rfl) y

set_option maxHeartbeats 4000000 in
/-- The body's triple, with what it leaves in the buffers of its outputs found by the run. -/
def run (c : Dev nD) (i : grid1.Coords) (arg2 : Memref sig .tc .vmem S1024x8192 .fp8e4m3) (harg2 : arg2.IsWhole) (arg3 : Memref sig .tc .vmem S1024x1 .f32) (harg3 : arg3.IsWhole) (arg4 : Memref sig .tc .vmem S512x8192 .fp8e4m3) (harg4 : arg4.IsWhole) (arg5 : Memref sig .tc .vmem S512x256 .i8) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .fp8e4m3) (harg8 : arg8.IsWhole) (arg9 : Memref sig .tc .vmem S1024x768 .i8) (harg9 : arg9.IsWhole) (arg10 : Memref sig .tc .vmem S1024x8192 .bf16) (harg10 : arg10.IsWhole) (arg11 : Memref sig .tc .vmem S512x8192 .bf16) (harg11 : arg11.IsWhole)
    (x0 : Vec F S1024x8192 .fp8e4m3) (x1 : Vec F S1024x1 .f32) (x2 : Vec F S512x8192 .fp8e4m3) (x3 : Vec F S512x256 .i8) (x4 : Vec F S1024x512 .bf16) (d9 : Vec F S1024x768 .i8) (xb : Vec F S1024x8192 .bf16) :
      Σ' (o7 : Vec F S1024x512 .bf16) (o8 : Vec F S1024x512 .fp8e4m3), { o9 : Vec F S1024x768 .i8 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d9 ∗ owns (c : Thread nD τ) arg10 fullShare xb ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o7 ∗ owns (c : Thread nD τ) arg8 fullShare o8 ∗ owns (c : Thread nD τ) arg9 fullShare o9 ∗ owns (c : Thread nD τ) arg10 fullShare (keep i x0 xb) ∗ (∃ d, owns (c : Thread nD τ) arg11 fullShare d)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11) K } := by
    refine ⟨?_, ?_, ?_, fun E K => ?run⟩
    case run =>
    simp only [cc1_main_eq_skeleton]; unfold cc1_main_skel
    simp only [k1_part78_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf9; obtain rfl := harg10.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; swap; · iexact H7
      ipureintro; exact View.read_writes_eq_canon _ _ _ (cover7 (F := F) _)
    isplitl [H8]
    · iexists _; isplitr; swap; · iexact H8
      ipureintro; exact View.read_writes_eq_canon _ _ _ (cover8 (F := F) _ _ _ _)
    isplitl [H9]
    · iexists _; isplitr; swap; · iexact H9
      ipureintro; rfl
    isplitl [H10]
    · iexists _; isplitr; swap; · iexact H10
      ipureintro; exact keep_read i arg2 harg2 arg10 harg10 x0 xb
    iexists _, _; isplitr; swap; · iexact H11
    ipureintro; rfl

end Cert.KernelIdeal.Body

end
-- ==== Proof.KerIdeal.Obl.lean ====
/- The second call's body obligation, for any values: from a property `P` of the kept copy of the codes between grid points and a
   predicate `Rl` on what the output windows are left at, given that one run of the body keeps both. -/
module

public import proofs.«01_k».proof.Proof.KerIdeal.Run
public import proofs.«01_k».proof.Proof.KerIdeal.Body

@[expose] public section

set_option maxRecDepth 16384

noncomputable section

namespace Cert.KernelIdeal.Obl

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-- Each window's current staging buffer at point `t`, and that it is whole. -/
abbrev ms0 (t : Fin cfg1.N) : Memref sig .tc .vmem S1024x8192 .fp8e4m3 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x8192 .fp8e4m3 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x256 .i8 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x512 .bf16 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x512 .fp8e4m3 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x768 .i8 := win1_7.stage (cfg1.slots t 7)
abbrev hs7 (t : Fin cfg1.N) : (ms7 t).IsWhole := hstage1_7 ((cfg1.slots t 7).cast nbuf1_7)
/-- The kept copy of the codes, and the scaled weights. -/
abbrev sc0 : Memref sig .tc .vmem S1024x8192 .bf16 := Memref.whole cc1_scratch0
abbrev sc1 : Memref sig .tc .vmem S512x8192 .bf16 := Memref.whole cc1_scratch1

/-- The scoped buffers the second call does not touch: the first call's staging buffers. -/
def other (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

-- what is known of the kept copy before each point, and what the output windows are held to
variable (P : (c : Dev nD) → ℕ → Vec F S1024x8192 .bf16 → Prop)
  (Rl : (c : Dev nD) → (w : Fin cfg1.W) → Fin cfg1.N → ((cfg1.win w).block.Idx → Elt F (cfg1.win w).elt) → Prop)

/-- The invariant between grid points: the untouched buffers, the kept copy at contents with `P`, the scaled weights at anything. -/
def Phi (c : Dev nD) (t : Fin (cfg1.N + 1)) : sProp (MT nD τ sig Unit (Elt F) ℕ (UR sig nD τ) ℕ) :=
  iprop(other c ∗ (∃ xb, ⌜P c t.val xb⌝ ∗ owns (c : Thread nD τ) sc0 fullShare xb) ∗ (∃ d, owns (c : Thread nD τ) sc1 fullShare d) ∗ (∃ r, prngReg c r))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ d, owns (c : Thread nD τ) sc0 fullShare d) ∗ (∃ d, owns (c : Thread nD τ) sc1 fullShare d)) ∗ (∃ r, prngReg c r)) := by
  unfold Pipeline.ΦA; rw [scopedRest1_eq]; simp only [sc0, sc1, owns_whole]; try rfl

/-- The class's invariant gives `Phi` before the first point, if `P` asks nothing there, -/
theorem Phi_zero (hP : ∀ c xb, P c 0 xb) (c : Dev nD) : (Pipeline.ΦA spec1 c : sProp 𝕄) ⊢ Phi P c 0 := by
  rw [PhiA_eq]; unfold Phi other
  iintro ⟨⟨H0, H1, H2, H3, H4, H5, ⟨%d, HS0⟩, HS1⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS0]
  · iexists d; isplitr; · ipureintro; exact hP c d
    iexact HS0
  isplitl [HS1]; · iexact HS1
  iexact Hg

/-- and `Phi` gives it back after the last. -/
theorem Phi_last (c : Dev nD) : Phi P c (Fin.last cfg1.N) ⊢ (Pipeline.ΦA spec1 c : sProp 𝕄) := by
  rw [PhiA_eq]; unfold Phi other
  iintro ⟨⟨H0, H1, H2, H3, H4, H5⟩, ⟨%d, -, HS0⟩, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [HS0]; · iexists d; iexact HS0
    iexact HS1
  iexact Hg

/-- One run of the body at point `t`, on the blocks there. -/
abbrev runAt (c : Dev nD) (t : Fin cfg1.N) (d9 : Vec F S1024x768 .i8) (xb : Vec F S1024x8192 .bf16) :=
  Body.run c (grid1.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _)
    (iblk m c 0 t) (iblk m c 1 t) (iblk m c 2 t) (iblk m c 3 t) (iblk m c 4 t) d9 xb

/-- What one run of the body must keep. -/
structure Step (c : Dev nD) (t : Fin cfg1.N) (d9 : Vec F S1024x768 .i8) (xb : Vec F S1024x8192 .bf16) : Prop where
  keep : P c (t.val + 1) (Body.keep (grid1.coords t) (iblk m c 0 t) xb)
  r5 : Rl c 5 t (runAt m c t d9 xb).1
  r6 : Rl c 6 t (runAt m c t d9 xb).2.1
  r7 : Rl c 7 t (runAt m c t d9 xb).2.2.1

/-- What the body is called with at point `t`, the windows one by one, -/
def bodyPre (c : Dev nD) (t : Fin cfg1.N) : sProp 𝕄 :=
  iprop((dat1 m (Phi P) c).Φ t.castSucc ∗ (dat1 m (Phi P) c).owesAt () t.castSucc
    ∗ (∃ d, owns (c : Thread nD τ) (ms0 t) fullShare ((dat1 m (Phi P) c).before 0 t d))
    ∗ (∃ d, owns (c : Thread nD τ) (ms1 t) fullShare ((dat1 m (Phi P) c).before 1 t d))
    ∗ (∃ d, owns (c : Thread nD τ) (ms2 t) fullShare ((dat1 m (Phi P) c).before 2 t d))
    ∗ (∃ d, owns (c : Thread nD τ) (ms3 t) fullShare ((dat1 m (Phi P) c).before 3 t d))
    ∗ (∃ d, owns (c : Thread nD τ) (ms4 t) fullShare ((dat1 m (Phi P) c).before 4 t d))
    ∗ (∃ Y, ⌜(rdat1 m (Phi P) Rl c).Finds 5 t Y⌝ ∗ owns (c : Thread nD τ) (ms5 t) fullShare Y)
    ∗ (∃ Y, ⌜(rdat1 m (Phi P) Rl c).Finds 6 t Y⌝ ∗ owns (c : Thread nD τ) (ms6 t) fullShare Y)
    ∗ (∃ Y, ⌜(rdat1 m (Phi P) Rl c).Finds 7 t Y⌝ ∗ owns (c : Thread nD τ) (ms7 t) fullShare Y))

/-- and what it returns. -/
def bodyPost (c : Dev nD) (t : Fin cfg1.N) : sProp 𝕄 :=
  iprop((dat1 m (Phi P) c).Φ t.succ ∗ (dat1 m (Phi P) c).owesAt () t.succ
    ∗ owns (c : Thread nD τ) (ms0 t) fullShare ((dat1 m (Phi P) c).after 0 t)
    ∗ owns (c : Thread nD τ) (ms1 t) fullShare ((dat1 m (Phi P) c).after 1 t)
    ∗ owns (c : Thread nD τ) (ms2 t) fullShare ((dat1 m (Phi P) c).after 2 t)
    ∗ owns (c : Thread nD τ) (ms3 t) fullShare ((dat1 m (Phi P) c).after 3 t)
    ∗ owns (c : Thread nD τ) (ms4 t) fullShare ((dat1 m (Phi P) c).after 4 t)
    ∗ (∃ X, ⌜Rl c 5 t X⌝ ∗ owns (c : Thread nD τ) (ms5 t) fullShare X)
    ∗ (∃ X, ⌜Rl c 6 t X⌝ ∗ owns (c : Thread nD τ) (ms6 t) fullShare X)
    ∗ (∃ X, ⌜Rl c 7 t X⌝ ∗ owns (c : Thread nD τ) (ms7 t) fullShare X))

set_option maxHeartbeats 1600000 in
/-- The body at any point. -/
theorem sound_body (c : Dev nD) (t : Fin cfg1.N)
    (h : ∀ d9 xb, P c t.val xb → (rdat1 m (Phi P) Rl c).Finds 7 t d9 → Step m P Rl c t d9 xb) :
    bodyPre m P Rl c t ⊢ wp frame (wpE (defs₀ (F := F)) Variants.none c none) Set.univ (bodyAt1 t) (fun _ => bodyPost m P Rl c t) := by
  unfold bodyPre bodyPost bodyAt1
  simp only [before1_0, before1_1, before1_2, before1_3, before1_4]
  rw [show (dat1 m (Phi P) c).owesAt () t.succ = (dat1 m (Phi P) c).owesAt () t.castSucc from rfl,
    after1_0, after1_1, after1_2, after1_3, after1_4,
    show (dat1 m (Phi P) c).Φ t.castSucc = Phi P c t.castSucc from rfl, show (dat1 m (Phi P) c).Φ t.succ = Phi P c t.succ from rfl]
  unfold Phi
  iintro ⟨⟨Hoth, ⟨%xb, %hxb, HS0⟩, HS1, Hg⟩, Ho, ⟨%d0, H0⟩, ⟨%d1, H1⟩, ⟨%d2, H2⟩, ⟨%d3, H3⟩, ⟨%d4, H4⟩, ⟨%d5, -, H5⟩, ⟨%d6, -, H6⟩, ⟨%d7, %hd7, H7⟩⟩
  have hst := h d7 xb hxb hd7
  iapply ((runAt m c t d7 xb).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [Hoth HS0 HS1 Hg]
  · isplitl [Hoth]; · iexact Hoth
    isplitl [HS0]
    · iexists _; isplitr; swap; · iexact HS0
      ipureintro; exact hst.keep
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact hst.r5
  isplitl [H6]
  · iexists _; isplitr; swap; · iexact H6
    ipureintro; exact hst.r6
  iexists _; isplitr; swap; · iexact H7
  ipureintro; exact hst.r7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The pipeline's body obligation, at every point. -/
theorem body_obligation (c : Dev nD)
    (h : ∀ t d9 xb, P c t.val xb → (rdat1 m (Phi P) Rl c).Finds 7 t d9 → Step m P Rl c t d9 xb) :
    BodyObligationRel (dat1 m (Phi P) c) (defs₀ (F := F)) Variants.none () Set.univ outWin (Rl c) := fun t => by
  rw [bigSep_W1, bigSep_W1, defs₀_row]
  exact triple_restated (sound_body m P Rl c t (h t)) rfl .rfl fun _ => .rfl

/-- The run from what one body run keeps: termination, the final contents and the counters (`Run.run`). -/
theorem run (ρ : Dev nD → PrngReg) (hP : ∀ c xb, P c 0 xb)
    (h : ∀ c t d9 xb, P c t.val xb → (rdat1 m (Phi P) Rl c).Finds 7 t d9 → Step m P Rl c t d9 xb) :
    θ_run defs (onTc (τ := τ) (main (F := F))) ⟨m, fun _ => 0, ρ⟩ (fun r => (∀ c, QY m (Phi P) Rl c r.2) ∧ r.2.sem = fun _ => 0) :=
  Run.run m ρ (Phi P) Rl (fun c => body_obligation m P Rl c (h c)) (Phi_zero P hP) (Phi_last P)

end Cert.KernelIdeal.Obl

end
-- ==== Proof.KerIdeal.Frame.lean ====
/- The frame: every run terminates, leaves the arguments as they were and every semaphore counter at zero. -/
module

public import proofs.«01_k».proof.Proof.KerIdeal.Obl
public import Idealize.ShloMosaic.Lib.StableHlo.RunHlo

@[expose] public section

set_option maxRecDepth 16384

noncomputable section

namespace Cert.KernelIdeal.Obl

open Cert.KernelIdeal Cert.KernelIdeal.Gen Cert.KernelIdeal.Run
open Idealize.ShloMosaic Idealize.ShloMosaic.TcCoe
open Idealize.SL Idealize.SL.Sem

variable {F : FTy → Type} [FloatOps F]
variable (m : (ℓ : Loc nD τ sig) → Buf (Elt F) ℓ)
variable (P : (c : Dev nD) → ℕ → Vec F S1024x8192 .bf16 → Prop)
  (Rl : (c : Dev nD) → (w : Fin cfg1.W) → Fin cfg1.N → ((cfg1.win w).block.Idx → Elt F (cfg1.win w).elt) → Prop)

/-- The arguments as a run of the program leaves them: as they were. -/
theorem QY_args {c : Dev nD} {s : MemSt nD τ sig (Elt F)} (h : QY m (Phi P) Rl c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3) := by
  refine ⟨h.2.1, ?_, ?_, h.2.2⟩
  · have h2 := h.1 2
    rw [Pipeline.RDat.ArrAt_in _ 2 rfl] at h2
    refine (show s.mem ((c : Thread nD τ).loc main_arg1) = _ from h2).trans ?_
    exact (A1_eq m (Phi P) c 2).trans (W3_arg m c main_arg1 (by decide) (by decide) (by decide))
  · have h2 := h.1 3
    rw [Pipeline.RDat.ArrAt_in _ 3 rfl] at h2
    refine (show s.mem ((c : Thread nD τ).loc main_arg2) = _ from h2).trans ?_
    exact (A1_eq m (Phi P) c 3).trans (W3_arg m c main_arg2 (by decide) (by decide) (by decide))

end Cert.KernelIdeal.Obl

namespace Cert.KernelIdeal.Frame

open Cert.KernelIdeal Cert.KernelIdeal.Gen Cert.KernelIdeal.Run
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (Obl.run m (fun _ _ _ => True) (fun _ _ _ _ => True) ρ (fun _ _ => trivial) fun _ _ _ _ _ _ => ⟨trivial, trivial, trivial, trivial⟩)
    fun r h => ⟨fun c => Obl.QY_args m (fun _ _ _ => True) (fun _ _ _ _ => True) (h.1 c), h.2⟩

end Cert.KernelIdeal.Frame

end
-- ==== Proof.Val.Scale.lean ====
/- The power-of-two scale of one block over the extended reals: the kernel's search among the floats and the reference's logarithm
   give the same exponent, and the same scale, for every greatest absolute value, infinity among them. -/
module

public import Idealize.ShloMosaic.PureOps.Ideal
public import Idealize.ShloMosaic.PureOps.Vector
public import Mathlib.Analysis.SpecialFunctions.Log.Basic
public import Mathlib.Analysis.SpecialFunctions.Pow.Real

@[expose] public section

set_option maxRecDepth 16384

noncomputable section

namespace Cert.Scale

open Idealize.ShloMosaic

/-! ## The floats that a search compares with -/

theorem select_one {α : Type} (a b : α) : Scalar.select 1#1 a b = a := if_pos rfl
theorem select_zero {α : Type} (a b : α) : Scalar.select 0#1 a b = b := if_neg (by decide)

/-- A word of sign 0, exponent field `E` and fraction `T` is the float `(2²³ + T) · 2^(E - 150)`. -/
theorem ieee_normal (b : BitVec 32) (E T : ℕ) (h0 : 0 < E) (h1 : E < 255) (hs : b.extractLsb' 31 1 = 0#1)
    (hE : (b.extractLsb' 23 8).toNat = E) (hT : (b.extractLsb' 0 23).toNat = T) :
    Ideal.ieee 8 23 b = (((2 ^ 23 + T : ℕ) * (2 : ℝ) ^ ((E : ℤ) - 150) : ℝ) : EReal) := by
  have hs' : (b.extractLsb' (8 + 23) 1 == 1#1) = false := by rw [hs]; rfl
  have hz : ((E : ℤ) - (2 ^ (8 - 1) - 1) - ((23 : ℕ) : ℤ)) = (E : ℤ) - 150 := by norm_num; ring
  unfold Ideal.ieee
  rw [hs', hE, hT]
  rw [if_neg (by omega), if_neg (by omega), hz, if_neg (by decide), one_mul]

theorem ofBits_word (b : BitVec 32) : Ideal.ofBits .f32 b = Ideal.ieee 8 23 b := rfl

theorem word_field (N E T : ℕ) (h : N = E * 2 ^ 23 + T) (h1 : E < 255) (hT : T < 2 ^ 23) :
    (BitVec.ofNat 32 N).extractLsb' 31 1 = 0#1 ∧ ((BitVec.ofNat 32 N).extractLsb' 23 8).toNat = E ∧ ((BitVec.ofNat 32 N).extractLsb' 0 23).toNat = T := by
  refine ⟨?_, ?_, ?_⟩
  · apply BitVec.eq_of_toNat_eq
    simp only [BitVec.extractLsb'_toNat, BitVec.toNat_ofNat, Nat.shiftRight_eq_div_pow]; omega
  · simp only [BitVec.extractLsb'_toNat, BitVec.toNat_ofNat, Nat.shiftRight_eq_div_pow]; omega
  · simp only [BitVec.extractLsb'_toNat, BitVec.toNat_ofNat, Nat.shiftRight_eq_div_pow]; omega

/-- The float whose word is `E · 2²³ + T`, of a normal exponent field: `(2²³ + T) · 2^(E - 150)`. -/
theorem ofBits_normal' (N E T : ℕ) (h : N = E * 2 ^ 23 + T) (h0 : 0 < E) (h1 : E < 255) (hT : T < 2 ^ 23) :
    Ideal.ofBits .f32 (BitVec.ofNat 32 N) = (((2 ^ 23 + T : ℕ) * (2 : ℝ) ^ ((E : ℤ) - 150) : ℝ) : EReal) := by
  obtain ⟨a, b, c⟩ := word_field N E T h h1 hT
  rw [ofBits_word, ieee_normal _ E T h0 h1 a b c]

theorem ofBits_normal (E T : ℕ) (h0 : 0 < E) (h1 : E < 255) (hT : T < 2 ^ 23) :
    Ideal.ofBits .f32 (BitVec.ofNat 32 (E * 2 ^ 23 + T)) = (((2 ^ 23 + T : ℕ) * (2 : ℝ) ^ ((E : ℤ) - 150) : ℝ) : EReal) :=
  ofBits_normal' _ E T rfl h0 h1 hT

theorem ofBits_normal_eq (b : BitVec 32) (E T : ℕ) (h0 : 0 < E) (h1 : E < 255) (hT : T < 2 ^ 23) (hb : b = BitVec.ofNat 32 (E * 2 ^ 23 + T)) :
    Ideal.ofBits .f32 b = (((2 ^ 23 + T : ℕ) * (2 : ℝ) ^ ((E : ℤ) - 150) : ℝ) : EReal) := hb ▸ ofBits_normal E T h0 h1 hT

theorem ofBits_448 : Ideal.ofBits .f32 0x43E00000#32 = ((448 : ℝ) : EReal) := by
  rw [ofBits_normal_eq _ 135 (3 * 2 ^ 21) (by decide) (by decide) (by decide) (by decide)]; norm_num
theorem ofBits_2 : Ideal.ofBits .f32 0x40000000#32 = ((2 : ℝ) : EReal) := by
  rw [ofBits_normal_eq _ 128 0 (by decide) (by decide) (by decide) (by decide)]; norm_num
theorem ofBits_1 : Ideal.ofBits .f32 0x3F800000#32 = ((1 : ℝ) : EReal) := by
  rw [ofBits_normal_eq _ 127 0 (by decide) (by decide) (by decide) (by decide)]; norm_num
theorem ofBits_120 : Ideal.ofBits .f32 0x42F00000#32 = ((120 : ℝ) : EReal) := by
  rw [ofBits_normal_eq _ 133 (7 * 2 ^ 20) (by decide) (by decide) (by decide) (by decide)]; norm_num
theorem ofBits_min : Ideal.ofBits .f32 0x00800000#32 = (((2 : ℝ) ^ (-126 : ℤ) : ℝ) : EReal) := by
  rw [ofBits_normal_eq _ 1 0 (by decide) (by decide) (by decide) (by decide)]; norm_num
theorem ofBits_0 : Ideal.ofBits .f32 0x00000000#32 = ((0 : ℝ) : EReal) := by
  simp [Ideal.ofBits, Ideal.ieee]

/-! ## The kernel's search -/

/-- The float that `t` is the least to reach. -/
def bound (t : BitVec 32) : EReal :=
  Ideal.ofBits .f32 (IntOp.shli .vector (IntOp.subi (IntOp.shli .vector t 7#32) 32#32) 16#32)

/-- One step of the search: `t` if `a` is below the float of `t + s`, else `t + s`. -/
def step (a : EReal) (t s : BitVec 32) : BitVec 32 :=
  Scalar.select (Ideal.cmp .olt a (bound (IntOp.addi t s))) t (IntOp.addi t s)

/-- The eight steps. -/
def search (a : EReal) : BitVec 32 :=
  step a (step a (step a (step a (step a (step a (step a (step a 0#32 128#32) 64#32) 32#32) 16#32) 8#32) 4#32) 2#32) 1#32

/-- What the search ends at, with the small values replaced. -/
def expK (a : EReal) : BitVec 32 :=
  Scalar.select (IntOp.cmpi .slt (search a) 10#32) 135#32 (search a)

/-- The search holds `t`, and all that is between `t` and `t + w`. -/
def Holds (a : EReal) (t w : ℕ) : Prop :=
  t + w ≤ 256 ∧ (t = 0 ∨ bound (BitVec.ofNat 32 t) ≤ a) ∧ (t + w = 256 ∨ a < bound (BitVec.ofNat 32 (t + w)))

theorem step_eq (a : EReal) (t s : ℕ) :
    step a (BitVec.ofNat 32 t) (BitVec.ofNat 32 s) = BitVec.ofNat 32 (open Classical in if bound (BitVec.ofNat 32 (t + s)) ≤ a then t + s else t) := by
  have e : IntOp.addi (BitVec.ofNat 32 t) (BitVec.ofNat 32 s) = BitVec.ofNat 32 (t + s) := (BitVec.ofNat_add t s).symm
  unfold step; rw [e]
  unfold Scalar.select Ideal.cmp
  by_cases h : bound (BitVec.ofNat 32 (t + s)) ≤ a
  · have h' : decide (a < bound (BitVec.ofNat 32 (t + s))) = false := decide_eq_false (not_lt.mpr h)
    simp [h, h']
  · have h' : decide (a < bound (BitVec.ofNat 32 (t + s))) = true := decide_eq_true (not_le.mp h)
    simp [h, h']

/-- One step halves what is open. -/
theorem step_holds {a : EReal} {t s : ℕ} (h : Holds a t (s + s)) :
    ∃ t', step a (BitVec.ofNat 32 t) (BitVec.ofNat 32 s) = BitVec.ofNat 32 t' ∧ Holds a t' s := by
  obtain ⟨h1, h2, h3⟩ := h
  rw [step_eq]
  by_cases hc : bound (BitVec.ofNat 32 (t + s)) ≤ a
  · exact ⟨t + s, by rw [if_pos hc], by omega, .inr hc, by rw [Nat.add_assoc]; exact h3⟩
  · exact ⟨t, by rw [if_neg hc], by omega, h2, .inr (not_le.mp hc)⟩

/-- The search ends at some `t` of 0 … 255 whose float `a` reaches while it does not reach the next. -/
theorem search_holds (a : EReal) : ∃ t, search a = BitVec.ofNat 32 t ∧ Holds a t 1 := by
  obtain ⟨t1, e1, h1⟩ := step_holds (a := a) (t := 0) (s := 128) ⟨by decide, .inl rfl, .inl rfl⟩
  obtain ⟨t2, e2, h2⟩ := step_holds (s := 64) h1
  obtain ⟨t3, e3, h3⟩ := step_holds (s := 32) h2
  obtain ⟨t4, e4, h4⟩ := step_holds (s := 16) h3
  obtain ⟨t5, e5, h5⟩ := step_holds (s := 8) h4
  obtain ⟨t6, e6, h6⟩ := step_holds (s := 4) h5
  obtain ⟨t7, e7, h7⟩ := step_holds (s := 2) h6
  obtain ⟨t8, e8, h8⟩ := step_holds (s := 1) h7
  refine ⟨t8, ?_, h8⟩
  unfold search
  rw [show (step a 0#32 128#32) = _ from e1, show step a (BitVec.ofNat 32 t1) 64#32 = _ from e2, show step a (BitVec.ofNat 32 t2) 32#32 = _ from e3,
    show step a (BitVec.ofNat 32 t3) 16#32 = _ from e4, show step a (BitVec.ofNat 32 t4) 8#32 = _ from e5, show step a (BitVec.ofNat 32 t5) 4#32 = _ from e6,
    show step a (BitVec.ofNat 32 t6) 2#32 = _ from e7, show step a (BitVec.ofNat 32 t7) 1#32 = _ from e8]

theorem bound_word : ∀ t : Fin 256, 2 ≤ t.val →
    IntOp.shli .vector (IntOp.subi (IntOp.shli .vector (BitVec.ofNat 32 t.val) 7#32) 32#32) 16#32 = BitVec.ofNat 32 ((t.val - 1) * 2 ^ 23 + 3 * 2 ^ 21) := by
  decide +kernel

/-- From 2 on the float of `t` is `448 · 2^(t - 136)`. -/
theorem bound_eq {t : ℕ} (h2 : 2 ≤ t) (h : t < 256) : bound (BitVec.ofNat 32 t) = ((448 * (2 : ℝ) ^ ((t : ℤ) - 136) : ℝ) : EReal) := by
  unfold bound
  rw [bound_word ⟨t, h⟩ h2, ofBits_normal _ _ (show 0 < t - 1 by omega) (show t - 1 < 255 by omega) (by decide)]
  congr 1
  rw [show (((t - 1 : ℕ) : ℤ) - 150) = ((t : ℤ) - 136) + (-15) by omega, zpow_add₀ (by norm_num)]
  norm_num; ring

theorem bound_one : bound 1#32 ≤ ((448 * (2 : ℝ) ^ (-126 : ℤ) : ℝ) : EReal) := by
  have e : bound 1#32 = ((3 * 2 ^ 21 * (2 : ℝ) ^ (-149 : ℤ) : ℝ) : EReal) := by
    unfold bound
    rw [show IntOp.shli .vector (IntOp.subi (IntOp.shli .vector 1#32 7#32) 32#32) 16#32 = 0x00600000#32 by decide]
    simp [Ideal.ofBits, Ideal.ieee, -EReal.coe_mul]
    norm_num
  rw [e, EReal.coe_le_coe_iff]; norm_num

/-! ## The reference's exponent -/

/-- The quotient by 448, -/
def quo (a : EReal) : EReal := Ideal.div a (Ideal.ofBits .f32 0x43E00000#32)
/-- and the exponent: `⌊log₂⌋ + 1`, at most 120; 0 below the normal floats. -/
def expR (a : EReal) : BitVec 32 :=
  Ideal.fptosi 32 (Scalar.select (Ideal.cmp .olt (quo a) (Ideal.ofBits .f32 0x00800000#32)) (Ideal.ofBits .f32 0x00000000#32)
    (min (Ideal.liftRound Int.floor (Ideal.div (Ideal.log (quo a)) (Ideal.log (Ideal.ofBits .f32 0x40000000#32))) + Ideal.ofBits .f32 0x3F800000#32)
      (Ideal.ofBits .f32 0x42F00000#32)))

theorem quo_coe (a : ℝ) : quo (a : EReal) = ((a / 448 : ℝ) : EReal) := by
  unfold quo; rw [ofBits_448, Ideal.div_coe (by norm_num), ← EReal.coe_mul]; congr 1; ring
theorem quo_top : quo ⊤ = ⊤ := by
  unfold quo; rw [ofBits_448, Ideal.div_coe (by norm_num)]; exact EReal.top_mul_coe_of_pos (by norm_num)

theorem fptosi_int (k : ℤ) (h0 : -200 ≤ k) (h1 : k ≤ 200) : Ideal.fptosi 32 (((k : ℝ)) : EReal) = BitVec.ofInt 32 k := by
  unfold Ideal.fptosi
  rw [Ideal.toIntClamped_coe]
  simp only [Int.floor_intCast, Int.ceil_intCast, ite_self]
  congr 1
  norm_num
  omega

/-- Below the normal floats the exponent is 0. -/
theorem expR_small {a : EReal} (h0 : 0 ≤ a) (h : a < ((448 * (2 : ℝ) ^ (-126 : ℤ) : ℝ) : EReal)) : expR a = 0#32 := by
  induction a with
  | bot => exact absurd h0 (by simp)
  | top => exact absurd h (by simp)
  | coe a =>
    unfold expR
    rw [quo_coe, ofBits_min, ofBits_0]
    have : a / 448 < (2 : ℝ) ^ (-126 : ℤ) := by
      rw [EReal.coe_lt_coe_iff] at h; rw [div_lt_iff₀ (by norm_num)]; linarith
    have hc : Ideal.cmp .olt ((a / 448 : ℝ) : EReal) (((2 : ℝ) ^ (-126 : ℤ) : ℝ) : EReal) = 1 := by
      unfold Ideal.cmp; simp only [EReal.coe_lt_coe_iff, this, decide_true]; rfl
    rw [hc]
    exact Eq.trans (by simp [Scalar.select]) (fptosi_int 0 (by decide) (by decide))

/-- A value between `448 · 2^(k-1)` and `448 · 2^k` has exponent `k`. -/
theorem expR_coe {a : ℝ} {k : ℤ} (hk0 : -125 ≤ k) (hk1 : k ≤ 120) (hl : 448 * (2 : ℝ) ^ (k - 1) ≤ a) (hu : a < 448 * (2 : ℝ) ^ k ∨ k = 120) :
    expR (a : EReal) = BitVec.ofInt 32 k := by
  have hp : (2 : ℝ) ^ (k - 1) ≤ a / 448 := by rw [le_div_iff₀ (by norm_num)]; linarith
  have hpos : 0 < a / 448 := lt_of_lt_of_le (by positivity) hp
  unfold expR
  rw [quo_coe, ofBits_min, ofBits_0, ofBits_2, ofBits_1, ofBits_120]
  have hge : (2 : ℝ) ^ (-126 : ℤ) ≤ a / 448 := le_trans (zpow_le_zpow_right₀ (by norm_num) (by omega)) hp
  have hc : Ideal.cmp .olt ((a / 448 : ℝ) : EReal) (((2 : ℝ) ^ (-126 : ℤ) : ℝ) : EReal) = 0 := by
    unfold Ideal.cmp; simp only [EReal.coe_lt_coe_iff, not_lt.mpr hge, decide_false]; rfl
  rw [hc]
  have hlog : Ideal.log ((a / 448 : ℝ) : EReal) = ((Real.log (a / 448) : ℝ) : EReal) := by rw [Ideal.log_coe, if_neg (not_le.mpr hpos)]
  have hlog2 : Ideal.log ((2 : ℝ) : EReal) = ((Real.log 2 : ℝ) : EReal) := by rw [Ideal.log_coe, if_neg (by norm_num)]
  rw [hlog, hlog2, Ideal.div_coe (Real.log_pos (by norm_num)).ne', ← EReal.coe_mul, Ideal.liftRound_coe, ← EReal.coe_add,
    mul_one_div]
  have h2 : 0 < Real.log 2 := Real.log_pos (by norm_num)
  have hfl : k - 1 ≤ ⌊Real.log (a / 448) / Real.log 2⌋ := by
    rw [Int.le_floor, le_div_iff₀ h2, ← Real.log_zpow]; exact Real.log_le_log (by positivity) hp
  have hmin : min ((((⌊Real.log (a / 448) / Real.log 2⌋ : ℤ) : ℝ) + 1 : ℝ) : EReal) ((120 : ℝ) : EReal) = (((k : ℤ) : ℝ) : EReal) := by
    rw [← EReal.coe_strictMono.monotone.map_min]
    congr 1
    rcases hu with hu | rfl
    · have hq : a / 448 < (2 : ℝ) ^ k := by rw [div_lt_iff₀ (by norm_num)]; linarith
      have hfu : ⌊Real.log (a / 448) / Real.log 2⌋ < k := by
        rw [Int.floor_lt, div_lt_iff₀ h2, ← Real.log_zpow]; exact Real.log_lt_log hpos hq
      have : ⌊Real.log (a / 448) / Real.log 2⌋ = k - 1 := by omega
      rw [this, min_eq_left (by push_cast; have : (k : ℝ) ≤ 120 := by exact_mod_cast hk1
                                linarith)]
      push_cast; ring
    · rw [min_eq_right]
      · norm_num
      · have : ((120 - 1 : ℤ) : ℝ) ≤ ((⌊Real.log (a / 448) / Real.log 2⌋ : ℤ) : ℝ) := by exact_mod_cast hfl
        push_cast at this; linarith
  rw [hmin]
  exact Eq.trans (by simp [Scalar.select]) (fptosi_int k (by omega) (by omega))

theorem expR_top : expR ⊤ = 120#32 := by
  unfold expR
  rw [quo_top, ofBits_min, ofBits_0, ofBits_2, ofBits_1, ofBits_120]
  have hc : Ideal.cmp .olt ⊤ (((2 : ℝ) ^ (-126 : ℤ) : ℝ) : EReal) = 0 := by
    unfold Ideal.cmp; simp only [not_top_lt, decide_false]; rfl
  rw [hc]
  have hlog2 : Ideal.log ((2 : ℝ) : EReal) = ((Real.log 2 : ℝ) : EReal) := by rw [Ideal.log_coe, if_neg (by norm_num)]
  have h0 : 0 < Real.log 2 := Real.log_pos (by norm_num)
  rw [Ideal.log_top, hlog2, Ideal.div_coe h0.ne', EReal.top_mul_coe_of_pos (by positivity), Ideal.liftRound_top, EReal.top_add_coe, min_eq_right le_top]
  exact Eq.trans (by simp [Scalar.select]) (fptosi_int 120 (by decide) (by decide))

/-! ## The two agree -/

theorem search_small : ∀ t : Fin 256, t.val < 10 → Scalar.select (IntOp.cmpi .slt (BitVec.ofNat 32 t.val) 10#32) 135#32 (BitVec.ofNat 32 t.val) = 135#32 := by
  decide +kernel
theorem search_large : ∀ t : Fin 256, 10 ≤ t.val → Scalar.select (IntOp.cmpi .slt (BitVec.ofNat 32 t.val) 10#32) 135#32 (BitVec.ofNat 32 t.val) = BitVec.ofNat 32 t.val := by
  decide +kernel
theorem ofInt_sub : ∀ t : Fin 256, BitVec.ofInt 32 ((t.val : ℤ) - 135) = IntOp.subi (BitVec.ofNat 32 t.val) 135#32 := by
  decide +kernel

/-- For every `a ≥ 0` the kernel's `t` lies in 10 … 255 and the reference's exponent is `t - 135`. -/
theorem exp_eq {a : EReal} (h0 : 0 ≤ a) :
    ∃ t : Fin 256, 10 ≤ t.val ∧ expK a = BitVec.ofNat 32 t.val ∧ expR a = IntOp.subi (BitVec.ofNat 32 t.val) 135#32 := by
  obtain ⟨t, e, h1, h2, h3⟩ := search_holds a
  by_cases ht : t < 10
  · refine ⟨135, by decide, ?_, ?_⟩
    · unfold expK; rw [e]; exact search_small ⟨t, by omega⟩ ht
    · have h3 := h3.resolve_left (by omega)
      refine (expR_small h0 ?_).trans (by decide)
      rcases Nat.eq_zero_or_pos t with rfl | hp
      · exact lt_of_lt_of_le h3 bound_one
      · rw [bound_eq (by omega) (by omega)] at h3
        refine lt_of_lt_of_le h3 ?_
        rw [EReal.coe_le_coe_iff]
        exact mul_le_mul_of_nonneg_left (zpow_le_zpow_right₀ (by norm_num) (by push_cast; omega)) (by norm_num)
  · refine ⟨⟨t, by omega⟩, Nat.le_of_not_lt ht, ?_, ?_⟩
    · unfold expK; rw [e]; exact search_large ⟨t, by omega⟩ (Nat.le_of_not_lt ht)
    · have h2 := h2.resolve_left (by omega)
      rw [bound_eq (by omega) (by omega)] at h2
      rw [← ofInt_sub]
      induction a with
      | bot => exact absurd h0 (by simp)
      | top =>
        rcases h3 with h3 | h3
        · obtain rfl : t = 255 := by omega
          exact expR_top.trans (by show _ = BitVec.ofInt 32 (((255 : ℕ) : ℤ) - 135); decide)
        · exact absurd h3 (by simp)
      | coe a =>
        rw [EReal.coe_le_coe_iff] at h2
        refine expR_coe (by simp only; omega) (by simp only; omega) (by rw [show ((t : ℤ) - 135 - 1) = (t : ℤ) - 136 by ring]; exact h2) ?_
        rcases h3 with h3 | h3
        · right; simp only; omega
        · by_cases ht' : t = 255
          · right; simp only; omega
          · left
            rw [bound_eq (by omega) (by omega), EReal.coe_lt_coe_iff] at h3
            rw [show ((t : ℤ) - 135) = (((t + 1 : ℕ) : ℤ) - 136) by push_cast; ring]; exact h3

/-! ## The scales -/

/-- The kernel's power of two: the float whose word is `(e + 127) << 23`. -/
def powK (e : BitVec 32) : EReal := Ideal.ofBits .f32 (IntOp.shli .vector (IntOp.addi e 127#32) 23#32)

/-- The reference's: `2^e`, 0 below -126 and infinite above 127. -/
def powR (e : BitVec 32) : EReal :=
  Scalar.select (IntOp.cmpi .slt e 4294967170#32) (Ideal.ofBits .f32 0x00000000#32)
    (Scalar.select (IntOp.cmpi .sgt e 127#32) (Ideal.ofBits .f32 0x7F800000#32) (Ideal.exp2 ((e.toInt : ℝ) : EReal)))

/-- A normal exponent field gives the power. -/
theorem ofBits_pow {E : ℕ} (h0 : 0 < E) (h1 : E < 255) :
    Ideal.ofBits .f32 (BitVec.ofNat 32 (E * 2 ^ 23)) = Ideal.exp2 ((((E : ℤ) - 127 : ℤ) : ℝ) : EReal) := by
  have h := ofBits_normal E 0 h0 h1 (by decide)
  rw [Nat.add_zero] at h
  rw [h, Ideal.exp2_coe]
  congr 1
  show _ = (2 : ℝ) ^ ((((E : ℤ) - 127 : ℤ)) : ℝ)
  rw [Real.rpow_intCast, show ((E : ℤ) - 127) = ((E : ℤ) - 150) + 23 by ring, zpow_add₀ (by norm_num)]
  norm_num; ring

theorem word_shift : ∀ w : Fin 256, IntOp.shli .vector (BitVec.ofNat 32 w.val) 23#32 = BitVec.ofNat 32 (w.val * 2 ^ 23) := by decide +kernel
theorem word_slt : ∀ w : Fin 256, 0 < w.val → IntOp.cmpi .slt (IntOp.subi (BitVec.ofNat 32 w.val) 127#32) 4294967170#32 = 0#1 := by decide +kernel
theorem word_sgt : ∀ w : Fin 256, w.val < 255 → IntOp.cmpi .sgt (IntOp.subi (BitVec.ofNat 32 w.val) 127#32) 127#32 = 0#1 := by decide +kernel
theorem word_toInt : ∀ w : Fin 256, (IntOp.subi (BitVec.ofNat 32 w.val) 127#32).toInt = (w.val : ℤ) - 127 := by decide +kernel

/-- The float whose word is `w << 23` is the reference's `2^(w - 127)`, for every byte `w`. -/
theorem pow_word (w : Fin 256) :
    Ideal.ofBits .f32 (IntOp.shli .vector (BitVec.ofNat 32 w.val) 23#32) = powR (IntOp.subi (BitVec.ofNat 32 w.val) 127#32) := by
  unfold powR
  by_cases h0 : w.val = 0
  · obtain rfl : w = 0 := Fin.ext h0
    rw [show IntOp.cmpi .slt (IntOp.subi (BitVec.ofNat 32 (0 : Fin 256).val) 127#32) 4294967170#32 = 1#1 by decide, select_one,
      show IntOp.shli .vector (BitVec.ofNat 32 (0 : Fin 256).val) 23#32 = 0x00000000#32 by decide]
  rw [word_slt w (by omega)]
  by_cases h1 : w.val = 255
  · obtain rfl : w = 255 := Fin.ext h1
    rw [show IntOp.cmpi .sgt (IntOp.subi (BitVec.ofNat 32 (255 : Fin 256).val) 127#32) 127#32 = 1#1 by decide, select_zero, select_one,
      show IntOp.shli .vector (BitVec.ofNat 32 (255 : Fin 256).val) 23#32 = 0x7F800000#32 by decide]
  rw [word_sgt w (by omega), word_shift, ofBits_pow (by omega) (by omega), word_toInt, select_zero, select_zero]

theorem pow_shift (e : BitVec 32) (w : Fin 256) (h : IntOp.addi e 127#32 = BitVec.ofNat 32 w.val) (he : e = IntOp.subi (BitVec.ofNat 32 w.val) 127#32) :
    powK e = powR e := by
  unfold powK; rw [h, pow_word, ← he]

theorem down_word : ∀ t : Fin 256, 10 ≤ t.val →
    IntOp.addi (IntOp.subi 135#32 (BitVec.ofNat 32 t.val)) 127#32 = BitVec.ofNat 32 (262 - t.val) := by decide +kernel
theorem down_word' : ∀ t : Fin 256, 10 ≤ t.val →
    IntOp.subi 0#32 (IntOp.subi (BitVec.ofNat 32 t.val) 135#32) = IntOp.subi (BitVec.ofNat 32 (262 - t.val)) 127#32 := by decide +kernel
theorem down_word'' : ∀ t : Fin 256, 10 ≤ t.val →
    IntOp.subi 135#32 (BitVec.ofNat 32 t.val) = IntOp.subi (BitVec.ofNat 32 (262 - t.val)) 127#32 := by decide +kernel
theorem up_word : ∀ t : Fin 256, 10 ≤ t.val →
    IntOp.addi (IntOp.subi (BitVec.ofNat 32 t.val) 135#32) 127#32 = BitVec.ofNat 32 (t.val - 8) := by decide +kernel
theorem up_word' : ∀ t : Fin 256, 10 ≤ t.val →
    IntOp.subi (BitVec.ofNat 32 t.val) 135#32 = IntOp.subi (BitVec.ofNat 32 (t.val - 8)) 127#32 := by decide +kernel
theorem byte_word : ∀ t : Fin 256, 10 ≤ t.val →
    IntOp.subi (BitVec.ofNat 32 t.val) 8#32 = IntOp.addi (IntOp.subi (BitVec.ofNat 32 t.val) 135#32) 127#32 := by decide +kernel

/-- The scale that the kernel multiplies by is the reference's. -/
theorem down_eq {a : EReal} (h0 : 0 ≤ a) : powK (IntOp.subi 135#32 (expK a)) = powR (IntOp.subi 0#32 (expR a)) := by
  obtain ⟨t, ht, e1, e2⟩ := exp_eq h0
  rw [e1, e2, down_word' t ht, ← down_word'' t ht]
  exact pow_shift _ ⟨262 - t.val, by omega⟩ (down_word t ht) (down_word'' t ht)

/-- The scale that the kernel returns for a token is the reference's. -/
theorem up_eq {a : EReal} (h0 : 0 ≤ a) : powK (IntOp.subi (expK a) 135#32) = powR (expR a) := by
  obtain ⟨t, ht, e1, e2⟩ := exp_eq h0
  rw [e1, e2]
  exact pow_shift _ ⟨t.val - 8, by omega⟩ (up_word t ht) (up_word' t ht)

/-- The biased exponent that the kernel returns for a block is the reference's. -/
theorem byte_eq {a : EReal} (h0 : 0 ≤ a) : IntOp.subi (expK a) 8#32 = IntOp.addi (expR a) 127#32 := by
  obtain ⟨t, ht, e1, e2⟩ := exp_eq h0
  rw [e1, e2]; exact byte_word t ht

/-- It is a byte. -/
theorem byte_lt {a : EReal} (h0 : 0 ≤ a) : ∃ w : Fin 256, IntOp.subi (expK a) 8#32 = BitVec.ofNat 32 w.val := by
  obtain ⟨t, ht, e1, e2⟩ := exp_eq h0
  refine ⟨⟨t.val - 8, by omega⟩, ?_⟩
  rw [e1, byte_word t ht, up_word t ht]

/-- The clipped quotient of a value by its block's scale. -/
def clip (x p : EReal) : EReal := min (Ideal.ofBits .f32 0x43E00000#32) (max (Ideal.ofBits .f32 0xC3E00000#32) (x * p))

/-- The code of a value in a block whose greatest absolute value is `a`, as the kernel has it -/
def codeK (x a : EReal) : EReal := clip x (powK (IntOp.subi 135#32 (expK a)))
/-- and as the reference has it; -/
def codeR (x a : EReal) : EReal := clip x (powR (IntOp.subi 0#32 (expR a)))
/-- they are the same. -/
theorem code_eq {x a : EReal} (h0 : 0 ≤ a) : codeK x a = codeR x a := by
  unfold codeK codeR; rw [down_eq h0]

end Cert.Scale

end
-- ==== Proof.Val.Block.lean ====
/- Vectors read at an index: the exponent search, the codes and the greatest absolute value of a group, as the kernel and the
   reference compute them over whole vectors, are the scalar functions of `Cert.Scale` at every index. -/
module

public import proofs.«01_k».proof.Proof.Val.Scale
public import Idealize.ShloMosaic.PureOps.Ideal.Laws
public import Idealize.ShloMosaic.Lib.ValueIdx
public import Idealize.ShloMosaic.Lib.Pipeline.Value
public import Idealize.ShloMosaic.Lib.KernelVsHost

@[expose] public section

set_option maxRecDepth 16384

noncomputable section

namespace Cert.Scale

open Idealize.ShloMosaic Idealize.ShloMosaic.ValueIdx

/-! ## The search over a vector -/

section Vec
variable {s : Shape}

/-- One step of the search at every index. -/
def stepV (a : FVec Ideal s .f32) (t k : IVec s 32) : IVec s 32 := fun i => step (a i) (t i) (k i)

theorem stepV_fold (a : FVec Ideal s .f32) (t k : IVec s 32) :
    select (cmpf .olt a (bitcastToFloat .f32 (shli (subi (shli (addi t k) (broadcast s 7#32)) (broadcast s 32#32)) (broadcast s 16#32)))) t (addi t k)
      = stepV a t k := funext fun _ => rfl

/-- The exponent at every index. -/
def expV (a : FVec Ideal s .f32) : IVec s 32 := fun i => expK (a i)

theorem expV_fold (a : FVec Ideal s .f32) :
    select (cmpi .slt (stepV a (stepV a (stepV a (stepV a (stepV a (stepV a (stepV a (stepV a (broadcast s 0#32) (broadcast s 128#32)) (broadcast s 64#32))
        (broadcast s 32#32)) (broadcast s 16#32)) (broadcast s 8#32)) (broadcast s 4#32)) (broadcast s 2#32)) (broadcast s 1#32)) (broadcast s 10#32))
      (broadcast s 135#32)
      (stepV a (stepV a (stepV a (stepV a (stepV a (stepV a (stepV a (stepV a (broadcast s 0#32) (broadcast s 128#32)) (broadcast s 64#32))
        (broadcast s 32#32)) (broadcast s 16#32)) (broadcast s 8#32)) (broadcast s 4#32)) (broadcast s 2#32)) (broadcast s 1#32))
      = expV a := funext fun _ => rfl

/-- The power of two of an exponent, at every index. -/
def powV (e : IVec s 32) : FVec Ideal s .f32 := fun i => powK (e i)

theorem powV_fold (e : IVec s 32) : bitcastToFloat (F := Ideal) .f32 (shli (addi e (broadcast s 127#32)) (broadcast s 23#32)) = powV e := funext fun _ => rfl

/-- The clipped product, at every index. -/
def clipV (x p : FVec Ideal s .f32) : FVec Ideal s .fp8e4m3 := fun i => clip (x i) (p i)

theorem clipV_fold (x p : FVec Ideal s .f32) (h : FTy.fp8e4m3.bits < FTy.f32.bits) :
    truncf .fp8e4m3 (minimumf (broadcast s (Scalar.ofBits .f32 0x43E00000#32)) (maximumf (broadcast s (Scalar.ofBits .f32 0xC3E00000#32)) (mulf x p))) h
      = clipV x p := funext fun _ => rfl

end Vec

/-! ## The greatest absolute value of a group -/

/-- The greatest absolute value of `f`'s elements, -/
def amax {n : ℕ} (f : Fin n → EReal) : EReal := (Finset.univ : Finset (Fin n)).fold max (Ideal.ofBits .f32 0xFF800000#32) (fun i => max (f i) (-(f i)))

theorem ofBits_bot : Ideal.ofBits .f32 0xFF800000#32 = ⊥ := by
  simp [Ideal.ofBits, Ideal.ieee]

theorem amax_le {n : ℕ} (f : Fin n → EReal) (c : EReal) : amax f ≤ c ↔ ∀ i, max (f i) (-(f i)) ≤ c := by
  unfold amax; rw [Finset.fold_max_le, ofBits_bot]; simp

/-- which is not negative. -/
theorem amax_nonneg {n : ℕ} (f : Fin n → EReal) (i : Fin n) : 0 ≤ amax f := by
  refine le_trans ?_ ((amax_le f _).mp le_rfl i)
  rcases le_total 0 (f i) with h | h
  · exact le_max_of_le_left h
  · exact le_max_of_le_right (EReal.neg_nonneg.mpr h)

/-- A greatest value taken over twice the run: of `g` over `[l, l + n)` and over `[l + n, l + 2n)`. -/
theorem le_double {g A : ℕ → EReal} {n : ℕ} (hA : ∀ l c, A l ≤ c ↔ ∀ i < n, g (l + i) ≤ c) (l : ℕ) (c : EReal) :
    max (A l) (A (l + n)) ≤ c ↔ ∀ i < n + n, g (l + i) ≤ c := by
  rw [max_le_iff, hA, hA]
  constructor
  · rintro ⟨h1, h2⟩ i hi
    by_cases h : i < n
    · exact h1 i h
    · have := h2 (i - n) (by omega); rwa [Nat.add_assoc, Nat.add_sub_cancel' (by omega)] at this
  · exact fun h => ⟨fun i hi => h i (by omega), fun i hi => by rw [Nat.add_assoc]; exact h (n + i) (by omega)⟩

end Cert.Scale

end
-- ==== Proof.Val.Spec.lean ====
/- The five results as functions of the four arrays, at every index: once with the kernel's spelling of the scales, once with the
   reference's, and that the two are the same. -/
module

public import proofs.«01_k».proof.Proof.Val.Block

@[expose] public section

set_option maxRecDepth 16384

noncomputable section

namespace Cert.Scale

open Idealize.ShloMosaic Idealize.ShloMosaic.ValueIdx
open scoped BigOperators

/-- A matrix of extended reals. -/
abbrev Mat (m n : ℕ) := (⟨2, ![m, n]⟩ : Shape).Idx → EReal
/-- A matrix of bytes. -/
abbrev Bytes (m n : ℕ) := (⟨2, ![m, n]⟩ : Shape).Idx → BitVec 8

section
variable {m n k : ℕ}

/-- The greatest absolute value of a row. -/
def rowMax (x : Mat m n) (r : Fin m) : EReal := amax fun c : Fin n => x (ix2 r c)

/-- The group of 32 that holds a column. -/
def grp (c : ℕ) (i : Fin 32) : ℕ := 32 * (c / 32) + i.val

/-- The greatest absolute value of the group of 32 columns that holds column `c`. -/
def grpMax (h : 32 ∣ n) (x : Mat m n) (r : Fin m) (c : Fin n) : EReal :=
  amax fun i : Fin 32 => x (ix2 r ⟨32 * (c.val / 32) + i.val, by obtain ⟨q, rfl⟩ := h; have := c.isLt; omega⟩)

/-- The codes of the rows, -/
def rowCodes (x : Mat m n) : Mat m n := fun i => codeK (x i) (rowMax x (i 0))
/-- and their scales. -/
def rowScales (x : Mat m n) : Mat m 1 := fun i => powK (IntOp.subi (expK (rowMax x (i 0))) 135#32)

/-- The weights: each code times the float whose exponent field is its group's byte. -/
def weights {q : ℕ} (h : k = 32 * q) (w : Mat n k) (s : Bytes n q) : Mat n k := fun i =>
  w i * Ideal.ofBits .f32 (IntOp.shli .vector ((s (ix2 (i 0) ⟨(i 1).val / 32, by have := idx2_lt1 i; omega⟩)).setWidth 32) 23#32)

/-- The product with the row's scale, plus the residual. -/
def linear (x : Mat m k) (s : Mat m 1) (w : Mat n k) (r : Mat m n) : Mat m n := fun i =>
  (∑ c : Fin k, x (ix2 (i 0) c) * w (ix2 (i 1) c)) * s (ix2 (i 0) 0) + r i

/-- The codes of the groups of 32, -/
def grpCodes (h : 32 ∣ n) (x : Mat m n) : Mat m n := fun i => codeK (x i) (grpMax h x (i 0) (i 1))
/-- and their biased exponents, one byte a group. -/
def grpBytes {q : ℕ} (h : n = 32 * q) (x : Mat m n) : Bytes m q := fun i =>
  (IntOp.subi (expK (grpMax (h ▸ Dvd.intro _ rfl) x (i 0) ⟨32 * (i 1).val, by have := idx2_lt1 i; omega⟩)) 8#32).setWidth 8

/-! ## As the reference spells them -/

def rowCodesR (x : Mat m n) : Mat m n := fun i => codeR (x i) (rowMax x (i 0))
def rowScalesR (x : Mat m n) : Mat m 1 := fun i => powR (expR (rowMax x (i 0)))
def weightsR {q : ℕ} (h : k = 32 * q) (w : Mat n k) (s : Bytes n q) : Mat n k := fun i =>
  w i * powR (IntOp.subi ((s (ix2 (i 0) ⟨(i 1).val / 32, by have := idx2_lt1 i; omega⟩)).setWidth 32) 127#32)
def grpCodesR (h : 32 ∣ n) (x : Mat m n) : Mat m n := fun i => codeR (x i) (grpMax h x (i 0) (i 1))
def grpBytesR {q : ℕ} (h : n = 32 * q) (x : Mat m n) : Bytes m q := fun i =>
  (IntOp.addi (expR (grpMax (h ▸ Dvd.intro _ rfl) x (i 0) ⟨32 * (i 1).val, by have := idx2_lt1 i; omega⟩)) 127#32).setWidth 8

theorem rowMax_nonneg (hn : 0 < n) (x : Mat m n) (r : Fin m) : 0 ≤ rowMax x r := amax_nonneg _ ⟨0, hn⟩
theorem grpMax_nonneg (h : 32 ∣ n) (x : Mat m n) (r : Fin m) (c : Fin n) : 0 ≤ grpMax h x r c := amax_nonneg _ 0

/-- The codes of the rows agree, -/
theorem rowCodes_eq (hn : 0 < n) (x : Mat m n) : rowCodes x = rowCodesR x := funext fun i => code_eq (rowMax_nonneg hn x _)
/-- the scales of the rows, -/
theorem rowScales_eq (hn : 0 < n) (x : Mat m n) : rowScales x = rowScalesR x := funext fun i => up_eq (rowMax_nonneg hn x _)
theorem setWidth_byte (b : BitVec 8) : b.setWidth 32 = BitVec.ofNat 32 (⟨b.toNat, b.isLt⟩ : Fin 256).val := by
  apply BitVec.eq_of_toNat_eq; simp
/-- the weights, -/
theorem weights_eq {q : ℕ} (h : k = 32 * q) (w : Mat n k) (s : Bytes n q) : weights h w s = weightsR h w s := funext fun i => by
  unfold weights weightsR; rw [setWidth_byte, pow_word]
/-- the codes of the groups, -/
theorem grpCodes_eq (h : 32 ∣ n) (x : Mat m n) : grpCodes h x = grpCodesR h x := funext fun i => code_eq (grpMax_nonneg h x _ _)
/-- and their bytes. -/
theorem grpBytes_eq {q : ℕ} (h : n = 32 * q) (x : Mat m n) : grpBytes h x = grpBytesR h x := funext fun i =>
  congrArg (BitVec.setWidth 8) (byte_eq (grpMax_nonneg _ x _ _))

end

end Cert.Scale

end
-- ==== Proof.Val.KChunk.lean ====
/- The second kernel call's vector code over the extended reals, at an index: the greatest absolute value of a group of 32
   lanes found by rotations and a gather, the codes of one 128-column chunk, and the bytes picked from the four chunks. -/
module

public import proofs.«01_k».proof.Proof.KerIdeal.Run
public import proofs.«01_k».proof.Proof.Val.Spec

@[expose] public section

set_option maxRecDepth 16384

noncomputable section

namespace Cert.KernelIdeal.Value

open Cert.KernelIdeal Cert.KernelIdeal.Gen Cert.Scale
open Idealize.ShloMosaic Idealize.ShloMosaic.TcCoe Idealize.ShloMosaic.ValueIdx

/-! ## Lanes and gathers -/

/-- The lane numbers. -/
def lane : IVec S1024x128 32 := iota .tc S1024x128 32 [1] iota_S1024x128_d1_w32

theorem lane_apply (r : Fin 1024) (l : Fin 128) : lane (ix2 r l) = BitVec.ofNat 32 l.val := iota_single_apply _ _ _ _ _ _

/-- A gather along the lanes. -/
def gatherV {α : Type} (x : S1024x128.Idx → α) (i : IVec S1024x128 32) : S1024x128.Idx → α :=
  dynamicGather 1 x (shapeCast S1024x128 (shapeCast S1024x128x1 i shapeCasts_S1024x128_S1024x128x1) shapeCasts_S1024x128x1_S1024x128)

theorem gatherV_apply {α : Type} (x : S1024x128.Idx → α) (i : IVec S1024x128 32) (r : Fin 1024) (l k : Fin 128)
    (h : (i (ix2 r l)).toNat % 128 = k.val) : gatherV x i (ix2 r l) = x (ix2 r k) := by
  unfold gatherV
  rw [shapeCast_shapeCast]
  refine congrArg x (funext fun a => Fin.ext ?_)
  fin_cases a
  · rfl
  · exact h

/-! ## The greatest of a group -/

/-- One rotation and maximum. -/
def rollStep (n : BitVec 32) (a : FVec Ideal S1024x128 .f32) : FVec Ideal S1024x128 .f32 :=
  maximumf a (dynamicRotate 1 n none a rotates_S1024x128_d1)

/-- `V` holds at each lane the greatest of `g` over the next `n` lanes, round. -/
def Covers (g : Fin 128 → EReal) (n : ℕ) (V : Fin 128 → EReal) : Prop :=
  ∀ l c, V l ≤ c ↔ ∀ i < n, g ⟨(l.val + i) % 128, Nat.mod_lt _ (by decide)⟩ ≤ c

theorem covers_step (a : FVec Ideal S1024x128 .f32) (r : Fin 1024) (g : Fin 128 → EReal) (n : ℕ) (hn : n < 128) (w : BitVec 32) (hw : w.toNat = 128 - n)
    (hn0 : 0 < n) (h : Covers g n fun l => a (ix2 r l)) : Covers g (n + n) fun l => rollStep w a (ix2 r l) := by
  intro l c
  have hr : dynamicRotate 1 w none a rotates_S1024x128_d1 (ix2 r l) = a (ix2 r ⟨(l.val + n) % 128, Nat.mod_lt _ (by decide)⟩) := by
    refine dynamicRotate_apply (s := S1024x128) 1 w a rotates_S1024x128_d1 _ _ fun b => ?_
    fin_cases b
    · rfl
    · show (l.val + n) % 128 = (l.val + 128 - w.toNat % 128) % 128
      have hm : w.toNat % 128 = 128 - n := by omega
      rw [hm]
      congr 1; omega
  show max (a (ix2 r l)) (dynamicRotate 1 w none a rotates_S1024x128_d1 (ix2 r l)) ≤ c ↔ _
  rw [hr, max_le_iff]
  have h1 := h l c
  have h2 := h ⟨(l.val + n) % 128, Nat.mod_lt _ (by decide)⟩ c
  dsimp only at h1 h2
  rw [h1, h2]
  have e : ∀ i, ((l.val + n) % 128 + i) % 128 = (l.val + (n + i)) % 128 := fun i => by omega
  simp only [e]
  constructor
  · rintro ⟨h1, h2⟩ i hi
    by_cases hi' : i < n
    · exact h1 i hi'
    · have := h2 (i - n) (by omega)
      simpa [Nat.add_sub_cancel' (Nat.le_of_not_lt hi')] using this
  · exact fun h => ⟨fun i hi => h i (by omega), fun i hi => h (n + i) (by omega)⟩

/-- The five rotations. -/
def rollV (a : FVec Ideal S1024x128 .f32) : FVec Ideal S1024x128 .f32 :=
  rollStep 112#32 (rollStep 120#32 (rollStep 124#32 (rollStep 126#32 (rollStep 127#32 a))))

theorem rollV_le (a : FVec Ideal S1024x128 .f32) (r : Fin 1024) : Covers (fun l => a (ix2 r l)) 32 fun l => rollV a (ix2 r l) := by
  have h0 : Covers (fun l => a (ix2 r l)) 1 fun l => a (ix2 r l) := fun l c => by
    have : (⟨(l.val + 0) % 128, Nat.mod_lt _ (by decide)⟩ : Fin 128) = l := Fin.ext (Nat.mod_eq_of_lt l.isLt)
    constructor
    · intro h i hi
      obtain rfl : i = 0 := by omega
      rw [this]; exact h
    · intro h; have := h 0 (by decide); simp_all
  exact covers_step _ r _ 16 (by decide) _ (by decide) (by decide) (covers_step _ r _ 8 (by decide) _ (by decide) (by decide)
    (covers_step _ r _ 4 (by decide) _ (by decide) (by decide) (covers_step _ r _ 2 (by decide) _ (by decide) (by decide)
      (covers_step _ r _ 1 (by decide) _ (by decide) (by decide) h0))))

/-- The index of a group's first lane. -/
def first (v : IVec S1024x128 32) : IVec S1024x128 32 :=
  select (cmpi .slt (andi v (broadcast S1024x128 96#32)) (broadcast S1024x128 0#32))
    (addi (andi v (broadcast S1024x128 96#32)) (broadcast S1024x128 128#32)) (andi v (broadcast S1024x128 96#32))

theorem first_apply (r : Fin 1024) (l : Fin 128) : (first lane (ix2 r l)).toNat % 128 = 32 * (l.val / 32) := by
  have h : ∀ l : Fin 128, (first (fun _ => BitVec.ofNat 32 l.val) (ix2 0 0)).toNat % 128 = 32 * (l.val / 32) := by decide +kernel
  refine Eq.trans ?_ (h l)
  show (first (fun _ => lane (ix2 r l)) (ix2 0 0)).toNat % 128 = _
  rw [lane_apply]

/-- The greatest absolute value of each lane's group. -/
def gmaxV (x : FVec Ideal S1024x128 .f32) : FVec Ideal S1024x128 .f32 := gatherV (rollV (absf x)) (first lane)

theorem gmaxV_apply (x : FVec Ideal S1024x128 .f32) (r : Fin 1024) (l : Fin 128) :
    gmaxV x (ix2 r l) = amax fun i : Fin 32 => x (ix2 r ⟨32 * (l.val / 32) + i.val, by have := l.isLt; omega⟩) := by
  unfold gmaxV
  rw [gatherV_apply _ _ r l ⟨32 * (l.val / 32), by have := l.isLt; omega⟩ (first_apply r l)]
  refine eq_of_forall_ge_iff fun c => ?_
  rw [amax_le]
  refine (rollV_le (absf x) r _ c).trans ?_
  have hl := l.isLt
  constructor
  · intro h i
    have := h i.val i.isLt
    have e : (⟨(32 * (l.val / 32) + i.val) % 128, Nat.mod_lt _ (by decide)⟩ : Fin 128) = ⟨32 * (l.val / 32) + i.val, by omega⟩ :=
      Fin.ext (Nat.mod_eq_of_lt (by omega))
    dsimp only at this
    rw [e] at this
    exact this
  · intro h i hi
    have e : (⟨(32 * (l.val / 32) + i) % 128, Nat.mod_lt _ (by decide)⟩ : Fin 128) = ⟨32 * (l.val / 32) + i, by omega⟩ :=
      Fin.ext (Nat.mod_eq_of_lt (by omega))
    dsimp only
    rw [e]
    exact h ⟨i, hi⟩

/-! ## The search, chunk by chunk -/

theorem exp0 (M : FVec Ideal S1024x128 .f32) (I Z : IVec S1024x128 32) :
    k1_pay178 (k1_pay171 M I Z) (k1_pay175 (k1_pay171 M I Z) (k1_pay172 M I Z) (k1_pay173 M I Z) k1_pay174)
      (k1_pay176 (k1_pay171 M I Z) (k1_pay172 M I Z) (k1_pay173 M I Z) k1_pay174) k1_pay177 = expV (k1_pay171 M I Z) := by
  have e1 : k1_pay172 M I Z = stepV (k1_pay171 M I Z) (stepV (k1_pay171 M I Z) (stepV (k1_pay171 M I Z) (broadcast _ 0#32) (broadcast _ 128#32)) (broadcast _ 64#32)) (broadcast _ 32#32) := by
    unfold k1_pay172; dsimp only; iterate 3 rw [stepV_fold]
  have e2 : k1_pay175 (k1_pay171 M I Z) (k1_pay172 M I Z) (k1_pay173 M I Z) k1_pay174
      = stepV (k1_pay171 M I Z) (stepV (k1_pay171 M I Z) (stepV (k1_pay171 M I Z) (stepV (k1_pay171 M I Z) (k1_pay172 M I Z) (broadcast _ 16#32)) (broadcast _ 8#32)) (broadcast _ 4#32)) (broadcast _ 2#32) := by
    unfold k1_pay175 k1_pay173 k1_pay174; dsimp only; iterate 4 rw [stepV_fold]
  unfold k1_pay178 k1_pay176 k1_pay177
  dsimp only
  rw [e2, e1, stepV_fold, expV_fold]

theorem exp1 (y : FVec Ideal S1024x512 .bf16) (v : IVec S1024x128 32) :
    k1_pay190 (k1_pay183 y v) (k1_pay187 (k1_pay183 y v) (k1_pay184 y v) (k1_pay185 y v) k1_pay186)
      (k1_pay188 (k1_pay183 y v) (k1_pay184 y v) (k1_pay185 y v) k1_pay186) k1_pay189 = expV (k1_pay183 y v) := by
  have e1 : k1_pay184 y v = stepV (k1_pay183 y v) (broadcast _ 0#32) (broadcast _ 128#32) := by
    unfold k1_pay184; dsimp only; rw [stepV_fold]
  have e2 : k1_pay187 (k1_pay183 y v) (k1_pay184 y v) (k1_pay185 y v) k1_pay186
      = stepV (k1_pay183 y v) (stepV (k1_pay183 y v) (stepV (k1_pay183 y v) (stepV (k1_pay183 y v) (k1_pay184 y v) (broadcast _ 64#32)) (broadcast _ 32#32)) (broadcast _ 16#32)) (broadcast _ 8#32) := by
    unfold k1_pay187 k1_pay185 k1_pay186; dsimp only; iterate 4 rw [stepV_fold]
  unfold k1_pay190 k1_pay188 k1_pay189
  dsimp only
  rw [e2, e1]
  iterate 3 rw [stepV_fold]
  rw [expV_fold]

theorem exp2 (M : FVec Ideal S1024x128 .f32) (I Z : IVec S1024x128 32) :
    k1_pay206 (k1_pay199 M I Z) (k1_pay203 (k1_pay199 M I Z) (k1_pay200 M I Z) (k1_pay201 M I Z) k1_pay202)
      (k1_pay204 (k1_pay199 M I Z) (k1_pay200 M I Z) (k1_pay201 M I Z) k1_pay202) k1_pay205 = expV (k1_pay199 M I Z) := by
  have e1 : k1_pay200 M I Z = stepV (k1_pay199 M I Z) (stepV (k1_pay199 M I Z) (stepV (k1_pay199 M I Z) (broadcast _ 0#32) (broadcast _ 128#32)) (broadcast _ 64#32)) (broadcast _ 32#32) := by
    unfold k1_pay200; dsimp only; iterate 3 rw [stepV_fold]
  have e2 : k1_pay203 (k1_pay199 M I Z) (k1_pay200 M I Z) (k1_pay201 M I Z) k1_pay202
      = stepV (k1_pay199 M I Z) (stepV (k1_pay199 M I Z) (stepV (k1_pay199 M I Z) (stepV (k1_pay199 M I Z) (k1_pay200 M I Z) (broadcast _ 16#32)) (broadcast _ 8#32)) (broadcast _ 4#32)) (broadcast _ 2#32) := by
    unfold k1_pay203 k1_pay201 k1_pay202; dsimp only; iterate 4 rw [stepV_fold]
  unfold k1_pay206 k1_pay204 k1_pay205
  dsimp only
  rw [e2, e1, stepV_fold, expV_fold]

theorem exp3 (y : FVec Ideal S1024x512 .bf16) (v : IVec S1024x128 32) :
    k1_pay218 (k1_pay211 y v) (k1_pay215 (k1_pay211 y v) (k1_pay212 y v) (k1_pay213 y v) k1_pay214)
      (k1_pay216 (k1_pay211 y v) (k1_pay212 y v) (k1_pay213 y v) k1_pay214) k1_pay217 = expV (k1_pay211 y v) := by
  have e1 : k1_pay212 y v = stepV (k1_pay211 y v) (broadcast _ 0#32) (broadcast _ 128#32) := by
    unfold k1_pay212; dsimp only; rw [stepV_fold]
  have e2 : k1_pay215 (k1_pay211 y v) (k1_pay212 y v) (k1_pay213 y v) k1_pay214
      = stepV (k1_pay211 y v) (stepV (k1_pay211 y v) (stepV (k1_pay211 y v) (stepV (k1_pay211 y v) (k1_pay212 y v) (broadcast _ 64#32)) (broadcast _ 32#32)) (broadcast _ 16#32)) (broadcast _ 8#32) := by
    unfold k1_pay215 k1_pay213 k1_pay214; dsimp only; iterate 4 rw [stepV_fold]
  unfold k1_pay218 k1_pay216 k1_pay217
  dsimp only
  rw [e2, e1]
  iterate 3 rw [stepV_fold]
  rw [expV_fold]

end Cert.KernelIdeal.Value

end
-- ==== Proof.Val.KWeights.lean ====
/- The weights the second kernel call keeps in its scratch: sixty-four column chunks of 128, each the codes times the
   floats made of the groups' bytes, spread over the lanes by a gather. Together they are `Cert.Scale.weights` of the blocks. -/
module

public import Idealize.ShloMosaic.Lib.Pipeline.ValueKit.Tiles
public import proofs.«01_k».proof.Proof.KerIdeal.Body
public import proofs.«01_k».proof.Proof.Val.KChunk

@[expose] public section

set_option maxRecDepth 16384

noncomputable section

namespace Cert.KernelIdeal.Value

open Cert.KernelIdeal Cert.KernelIdeal.Gen Cert.Scale
open Idealize.ShloMosaic Idealize.ShloMosaic.TcCoe Idealize.ShloMosaic.ValueIdx

/-! ## One chunk -/

/-- A lane number divided by 32 and rounded down, as printed. -/
def quarter (v : IVec S512x128 32) : IVec S512x128 32 :=
  select (andi (cmpi .ne (subi (extui 32 (cmpi .sgt v (broadcast S512x128 0#32)) natLt_1_32) (extui 32 (cmpi .slt v (broadcast S512x128 0#32)) natLt_1_32))
      (broadcast S512x128 (Scalar.subi (Scalar.extui (Scalar.cmpi .sgt 32#32 0#32)) (Scalar.extui (Scalar.cmpi .slt 32#32 0#32)))))
      (cmpi .ne (remsi v (broadcast S512x128 32#32)) (broadcast S512x128 0#32)))
    (subi (divsi v (broadcast S512x128 32#32)) (broadcast S512x128 1#32)) (divsi v (broadcast S512x128 32#32))

/-- A lane wrapped into the vector, as printed. -/
def wrap (t : IVec S512x128 32) : IVec S512x128 32 :=
  select (cmpi .slt t (broadcast S512x128 0#32)) (addi t (broadcast S512x128 128#32)) t

/-- A chunk of the weights, as printed: the codes times the gathered scales. -/
def wcol (n : BitVec 32) (v : IVec S512x128 32) (g : FVec Ideal S512x128 .f32) (w : Vec Ideal S512x128 .fp8e4m3) : FVec Ideal S512x128 .bf16 :=
  shapeCast S512x128 (mulf (extf .bf16 w bitsLt_fp8e4m3_bf16) (truncf .bf16 (dynamicGather 1 g
    (shapeCast S512x128 (shapeCast S512x128x1 (wrap (addi (broadcast S512x128 n) (quarter v))) shapeCasts_S512x128_S512x128x1) shapeCasts_S512x128x1_S512x128))
    bitsLt_bf16_f32)) shapeCasts_S512x128_S512x128

theorem quarter_lane : ∀ l : Fin 128, quarter (fun _ => BitVec.ofNat 32 l.val) (ix2 0 0) = BitVec.ofNat 32 (l.val / 32) := by
  decide +kernel
theorem wrap_lane : ∀ m : Fin 128, wrap (fun _ => BitVec.ofNat 32 m.val) (ix2 0 0) = BitVec.ofNat 32 m.val := by
  decide +kernel

theorem quarter_at (v : IVec S512x128 32) (i : S512x128.Idx) : quarter v i = quarter (fun _ => v i) (ix2 0 0) := by unfold quarter; rfl
theorem wrap_at (v : IVec S512x128 32) (i : S512x128.Idx) : wrap v i = wrap (fun _ => v i) (ix2 0 0) := by unfold wrap; rfl

/-- Lane `l` of the chunk of the groups from `n` reads group `n + l / 32`. -/
theorem index_lane (n : ℕ) (hn : n ≤ 124) (r : Fin 512) (l : Fin 128) :
    wrap (addi (broadcast S512x128 (BitVec.ofNat 32 n)) (quarter Body.run.sl.v3)) (ix2 r l) = BitVec.ofNat 32 (n + l.val / 32) := by
  have hl : Body.run.sl.v3 (ix2 r l) = BitVec.ofNat 32 l.val := iota_single_apply _ _ _ _ _ _
  have hq : addi (broadcast S512x128 (BitVec.ofNat 32 n)) (quarter Body.run.sl.v3) (ix2 r l) = BitVec.ofNat 32 (n + l.val / 32) := by
    show BitVec.ofNat 32 n + quarter Body.run.sl.v3 (ix2 r l) = _
    rw [quarter_at, hl, quarter_lane, BitVec.ofNat_add]
  rw [wrap_at, hq]
  have := l.isLt
  exact wrap_lane ⟨n + l.val / 32, by omega⟩

/-- A chunk at an index. -/
theorem wcol_apply (n : ℕ) (hn : n ≤ 124) (g : FVec Ideal S512x128 .f32) (w : Vec Ideal S512x128 .fp8e4m3) (r : Fin 512) (l : Fin 128) (k : Fin 128)
    (hk : k.val = n + l.val / 32) : wcol (BitVec.ofNat 32 n) Body.run.sl.v3 g w (ix2 r l) = w (ix2 r l) * g (ix2 r k) := by
  unfold wcol
  rw [shapeCast_self, shapeCast_shapeCast]
  show w (ix2 r l) * g _ = _
  refine congrArg (w (ix2 r l) * ·) (congrArg g (funext fun a => Fin.ext ?_))
  fin_cases a
  · rfl
  · show (wrap _ (ix2 r l)).toNat % 128 = k.val
    rw [index_lane n hn, BitVec.toNat_ofNat, hk]
    have := l.isLt
    omega

/-! ## The sixty-four chunks -/

section Pieces

variable (c : Dev nD) (arg4 : Memref sig .tc .vmem S512x8192 .fp8e4m3) (harg4 : arg4.IsWhole) (arg5 : Memref sig .tc .vmem S512x256 .i8) (harg5 : arg5.IsWhole)
  (arg11 : Memref sig .tc .vmem S512x8192 .bf16) (x2 : Vec Ideal S512x8192 .fp8e4m3) (x3 : Vec Ideal S512x256 .i8)

/-- What a piece stores is what `G` has at the piece's places. -/
def Holds (G : Vec Ideal S512x8192 .bf16) (p : View.Piece (Elt Ideal) S512x8192 .bf16) : Prop := ∀ x, p.2 x = G (p.1.emb x)

/-- The scales of the half of the groups from `o`. -/
def half (o : ℕ) (inb : ∀ a : Fin S512x256.rank, ![0, o] a + S512x128.size a ≤ S512x256.size a) : FVec Ideal S512x128 .f32 :=
  k1_pay3 (View.readAt (Elt Ideal) arg5.view (Rect.unit (s := S512x256) ![0, o] S512x128.size inb).toLoadRect (harg5.unread x3))

theorem half_apply (o : ℕ) (inb : ∀ a : Fin S512x256.rank, ![0, o] a + S512x128.size a ≤ S512x256.size a) (r : Fin 512) (k : Fin 128) (h : Fin 256) (hh : h.val = o + k.val) :
    half arg5 harg5 x3 o inb (ix2 r k) = Ideal.ofBits .f32 (IntOp.shli .vector ((x3 (ix2 r h)).setWidth 32) 23#32) := by
  have e : View.readAt (Elt Ideal) arg5.view (Rect.unit (s := S512x256) ![0, o] S512x128.size inb).toLoadRect (harg5.unread x3) (ix2 r k) = x3 (ix2 r h) := by
    rw [View.readAt_eq_ld, harg5.read_unread]
    refine View.ld_unit_apply_of _ _ _ _ _ _ fun a => ?_
    fin_cases a
    · exact (Nat.zero_add _).symm
    · exact hh
  exact congrArg (fun b => Ideal.ofBits .f32 (IntOp.shli .vector (BitVec.setWidth 32 b) 23#32)) e

/-- The chunk at column `k0`, of the groups from `n` of the half from `o`, holds the weights. -/
theorem holds (o : ℕ) (inb) (k0 : ℕ) (inb') (hn : k0 / 32 - o ≤ 124) (h0 : k0 = 32 * (o + (k0 / 32 - o))) :
    Holds (weights (n := 512) (by decide : 8192 = 32 * 256) x2 x3)
      ⟨Rect.unit (s := S512x8192) ![0, k0] S512x128.size inb', wcol (BitVec.ofNat 32 (k0 / 32 - o)) Body.run.sl.v3 (half arg5 harg5 x3 o inb)
        (View.readAt (Elt Ideal) arg4.view (Rect.unit (s := S512x8192) ![0, k0] S512x128.size inb').toLoadRect (harg4.unread x2))⟩ := by
  intro (x : S512x128.Idx)
  obtain ⟨r, l, rfl⟩ : ∃ (r : Fin 512) (l : Fin 128), x = ix2 r l := ⟨x 0, x 1, eq_ix2 x⟩
  have hl := l.isLt
  have hi : k0 + 128 ≤ 8192 := inb' 1
  have ho : o + 128 ≤ 256 := inb 1
  have ex : (Rect.unit (s := S512x8192) ![0, k0] S512x128.size inb').emb (ix2 r l) = ix2 r (⟨k0 + l.val, by omega⟩ : Fin 8192) := by
    refine funext fun a => Fin.ext ((Rect.idx_unit_val _ _ _ _ a).trans ?_)
    fin_cases a
    · exact Nat.zero_add _
    · rfl
  have e2 : View.readAt (Elt Ideal) arg4.view (Rect.unit (s := S512x8192) ![0, k0] S512x128.size inb').toLoadRect (harg4.unread x2) (ix2 r l)
      = x2 (ix2 r (⟨k0 + l.val, by omega⟩ : Fin 8192)) := by
    rw [View.readAt_eq_ld, harg4.read_unread]
    exact congrArg x2 ex
  refine Eq.trans ?_ (congrArg (weights (n := 512) (by decide : 8192 = 32 * 256) x2 x3) ex.symm)
  refine (wcol_apply _ hn _ _ r l ⟨(k0 / 32 - o) + l.val / 32, by omega⟩ rfl).trans ?_
  rw [e2, half_apply arg5 harg5 x3 o inb r _ (⟨(k0 + l.val) / 32, by omega⟩ : Fin 256) (by show (k0 + l.val) / 32 = o + ((k0 / 32 - o) + l.val / 32); omega)]
  rfl

/-- Every piece stored holds the weights. -/
theorem pieces : ∀ p ∈ Body.run.sl.H11_64 c arg4 harg4 arg5 harg5 x2 x3, Holds (weights (n := 512) (by decide : 8192 = 32 * 256) x2 x3) p := by
  unfold Body.run.sl.H11_64
  iterate 32 refine List.forall_mem_cons.2 ⟨holds arg4 harg4 arg5 harg5 x2 x3 128 inb_S512x256_S512x128_0_128 _ _ (by decide) (by decide), ?_⟩
  iterate 32 refine List.forall_mem_cons.2 ⟨holds arg4 harg4 arg5 harg5 x2 x3 0 inb_S512x256_S512x128_0_0 _ _ (by decide) (by decide), ?_⟩
  exact List.forall_mem_nil _

/-- The scratch read whole is the weights of the blocks. -/
theorem scratch_eq : Body.run.sl.v2639 c arg4 harg4 arg5 harg5 arg11 x2 x3 = weights (n := 512) (by decide : 8192 = 32 * 256) x2 x3 := by
  unfold Body.run.sl.v2639
  rw [View.readCov_eq_canon']
  funext j
  have e : (Rect.unit (s := S512x8192) ![0, 0] S512x8192.size inb_S512x8192_S512x8192_0_0).toLoadRect.idx j = j := by
    refine funext fun a => Fin.ext ((Rect.idx_unit_val _ _ _ _ a).trans ?_)
    fin_cases a <;> exact Nat.zero_add _
  refine (congrArg (View.canon _) e).trans (View.canon_apply_of_pieces _ _ (pieces c arg4 harg4 arg5 harg5 x2 x3) j ?_)
  exact View.cover_of_tiledL (s := S512x8192) _ S512x128.size (by sl_kernel_rfl) j

end Pieces

end Cert.KernelIdeal.Value

end
-- ==== Proof.Val.KTile.lean ====
/- The second kernel call's tile over the extended reals: the codes of the four chunks and the bytes, read at an index, are those
   of the groups of the tile. -/
module

public import proofs.«01_k».proof.Proof.Val.KChunk

@[expose] public section

set_option maxRecDepth 16384

noncomputable section

namespace Cert.KernelIdeal.Value

open Cert.KernelIdeal Cert.KernelIdeal.Gen Cert.Scale
open Idealize.ShloMosaic Idealize.ShloMosaic.TcCoe Idealize.ShloMosaic.ValueIdx

/-- The exponents of a chunk. -/
def expC (x : FVec Ideal S1024x128 .f32) : IVec S1024x128 32 := expV (gmaxV x)
/-- The codes of a chunk. -/
def codesC (x : FVec Ideal S1024x128 .f32) : FVec Ideal S1024x128 .fp8e4m3 := clipV x (powV (subi (broadcast S1024x128 135#32) (expC x)))

/-- The tile's groups of 32. -/
abbrev tileMax (y : FVec Ideal S1024x512 .bf16) (r : Fin 1024) (c : Fin 512) : EReal :=
  grpMax (m := 1024) (n := 512) (by decide) y r c

theorem lt_tile {o : ℕ} (ho : o + 128 ≤ 512) (l : Fin 128) : o + l.val < 512 := by have := l.isLt; omega

section
variable (y : FVec Ideal S1024x512 .bf16) (x : FVec Ideal S1024x128 .f32) (o : ℕ) (ho : o + 128 ≤ 512)
  (hx : ∀ (r : Fin 1024) (l : Fin 128), x (ix2 r l) = y (ix2 r ⟨o + l.val, lt_tile ho l⟩))

include hx in
theorem gmax_tile (hd : o % 128 = 0) (r : Fin 1024) (l : Fin 128) : gmaxV x (ix2 r l) = tileMax y r ⟨o + l.val, lt_tile ho l⟩ := by
  rw [gmaxV_apply]
  unfold tileMax grpMax
  congr 1
  funext i
  rw [hx]
  have := l.isLt
  have e : o + (32 * (l.val / 32) + i.val) = 32 * ((o + l.val) / 32) + i.val := by omega
  simp only [e]

include hx in
theorem codes_tile (hd : o % 128 = 0) (r : Fin 1024) (l : Fin 128) :
    codesC x (ix2 r l) = grpCodes (m := 1024) (n := 512) (by decide) y (ix2 r ⟨o + l.val, lt_tile ho l⟩) := by
  show clip (x (ix2 r l)) (powK (IntOp.subi 135#32 (expK (gmaxV x (ix2 r l))))) = _
  rw [gmax_tile y x o ho hx hd, hx]
  rfl
end

/-! ## The chunks' printed values -/

theorem slice_apply (o : ℕ) (ho : o + 128 ≤ 512) (h : S1024x512.Slices ![0, o] S1024x128) (y : FVec Ideal S1024x512 .bf16) (r : Fin 1024) (l : Fin 128) :
    extractStridedSlice S1024x128 ![0, o] y h (ix2 r l) = y (ix2 r ⟨o + l.val, lt_tile ho l⟩) := by
  refine congrArg y (funext fun a => Fin.ext ?_)
  fin_cases a
  · show 0 + r.val = r.val
    omega
  · rfl

/-- Chunk 0 of a tile, as printed: its values, -/
def sl0 (y : FVec Ideal S1024x512 .bf16) : FVec Ideal S1024x128 .f32 :=
  extf .f32 (extractStridedSlice S1024x128 ![0, 0] y slices_S1024x512_o0_0_S1024x128) bitsLt_bf16_f32

theorem sl0_apply (y : FVec Ideal S1024x512 .bf16) (r : Fin 1024) (l : Fin 128) : sl0 y (ix2 r l) = y (ix2 r ⟨0 + l.val, lt_tile (by decide) l⟩) :=
  slice_apply 0 (by decide) slices_S1024x512_o0_0_S1024x128 y r l
theorem sl1_apply (y : FVec Ideal S1024x512 .bf16) (r : Fin 1024) (l : Fin 128) : k1_pay182 y (ix2 r l) = y (ix2 r ⟨128 + l.val, lt_tile (by decide) l⟩) :=
  slice_apply 128 (by decide) slices_S1024x512_o0_128_S1024x128 y r l
theorem sl2_apply (y : FVec Ideal S1024x512 .bf16) (r : Fin 1024) (l : Fin 128) : k1_pay195 y (ix2 r l) = y (ix2 r ⟨256 + l.val, lt_tile (by decide) l⟩) :=
  slice_apply 256 (by decide) slices_S1024x512_o0_256_S1024x128 y r l
theorem sl3_apply (y : FVec Ideal S1024x512 .bf16) (r : Fin 1024) (l : Fin 128) : k1_pay210 y (ix2 r l) = y (ix2 r ⟨384 + l.val, lt_tile (by decide) l⟩) :=
  slice_apply 384 (by decide) slices_S1024x512_o0_384_S1024x128 y r l

section
variable (a : Vec Ideal S1024x8192 .bf16) (b : Vec Ideal S512x8192 .bf16) (s : Vec Ideal S1024x1 .f32) (d : Vec Ideal S1024x512 .bf16)

theorem pay167 : k1_pay167 a b s d = sl0 (k1_pay165 a b s d) := by unfold k1_pay167 sl0; rfl
/-- its groups' greatest, -/
theorem gmax0 : k1_pay171 (k1_pay168 a b s d) k1_pay169 k1_pay170 = gmaxV (sl0 (k1_pay165 a b s d)) := by
  rw [← pay167]
  unfold k1_pay171 k1_pay168 k1_pay169 k1_pay170 gmaxV gatherV rollV rollStep first lane
  rfl
end
theorem gmax1 (y : FVec Ideal S1024x512 .bf16) : k1_pay183 y lane = gmaxV (k1_pay182 y) := by
  unfold k1_pay183 gmaxV gatherV rollV rollStep first; rfl
theorem gmax2 (y : FVec Ideal S1024x512 .bf16) : k1_pay199 (k1_pay196 y) (k1_pay197 lane) k1_pay198 = gmaxV (k1_pay195 y) := by
  unfold k1_pay199 k1_pay196 k1_pay197 k1_pay198 gmaxV gatherV rollV rollStep first; rfl
theorem gmax3 (y : FVec Ideal S1024x512 .bf16) : k1_pay211 y lane = gmaxV (k1_pay210 y) := by
  unfold k1_pay211 gmaxV gatherV rollV rollStep first; rfl

/-- The codes, once the exponents are named. -/
theorem codes0 (x G : FVec Ideal S1024x128 .f32) (e f g : IVec S1024x128 32) (h : k1_pay178 G e f g = expC x) :
    k1_pay179 x G e f g = codesC x := by
  unfold k1_pay179; dsimp only; rw [h, powV_fold, clipV_fold]; rfl
theorem codes1 (x G : FVec Ideal S1024x128 .f32) (e f g : IVec S1024x128 32) (h : k1_pay190 G e f g = expC x) :
    k1_pay193 (k1_pay191 x G e f g) (Scalar.ofBits .f32 0x43E00000#32) k1_pay192 = codesC x := by
  unfold k1_pay193 k1_pay191 k1_pay192; dsimp only; rw [h, powV_fold, clipV_fold]; rfl
theorem codes2 (x G : FVec Ideal S1024x128 .f32) (e f g : IVec S1024x128 32) (h : k1_pay206 G e f g = expC x) :
    k1_pay207 x G e f g = codesC x := by
  unfold k1_pay207; dsimp only; rw [h, powV_fold, clipV_fold]; rfl
theorem codes3 (x G : FVec Ideal S1024x128 .f32) (e f g : IVec S1024x128 32) (h : k1_pay218 G e f g = expC x) :
    k1_pay221 (k1_pay219 x G e f g) (Scalar.ofBits .f32 0x43E00000#32) k1_pay220 = codesC x := by
  unfold k1_pay221 k1_pay219 k1_pay220; dsimp only; rw [h, powV_fold, clipV_fold]; rfl

/-! ## The bytes -/

/-- Chunk `n`'s exponents less 8 at the lanes that are `n` modulo 4. -/
def pick (n : BitVec 32) (t p : IVec S1024x128 32) : IVec S1024x128 32 :=
  select (cmpi .eq (k1_pay180 lane) (broadcast S1024x128 n)) (subi t (broadcast S1024x128 8#32)) p

theorem pick0 (t p : IVec S1024x128 32) : k1_pay181 p t (k1_pay180 lane) = pick 0#32 t p := by unfold k1_pay181 pick; rfl
theorem pick1 (t p : IVec S1024x128 32) : k1_pay194 lane p t = pick 1#32 t p := by unfold k1_pay194 pick k1_pay180; rfl
theorem pick2 (t p : IVec S1024x128 32) : k1_pay209 p t (k1_pay208 lane) = pick 2#32 t p := by unfold k1_pay209 k1_pay208 pick k1_pay180; rfl
theorem pick3 (t p : IVec S1024x128 32) : k1_pay222 lane p t = pick 3#32 t p := by unfold k1_pay222 pick k1_pay180; rfl

theorem pick_apply (n : Fin 4) (t p : IVec S1024x128 32) (r : Fin 1024) (l : Fin 128) :
    pick (BitVec.ofNat 32 n.val) t p (ix2 r l) = if l.val % 4 = n.val then IntOp.subi (t (ix2 r l)) 8#32 else p (ix2 r l) := by
  have h : ∀ (l : Fin 128) (n : Fin 4), IntOp.cmpi .eq (k1_pay180 (fun _ => BitVec.ofNat 32 l.val) (ix2 0 0)) (BitVec.ofNat 32 n.val)
      = if l.val % 4 = n.val then 1#1 else 0#1 := by decide +kernel
  show Scalar.select (IntOp.cmpi .eq (k1_pay180 (fun _ => lane (ix2 r l)) (ix2 0 0)) (BitVec.ofNat 32 n.val)) (IntOp.subi (t (ix2 r l)) 8#32) (p (ix2 r l)) = _
  rw [lane_apply, h]
  split
  · exact Scale.select_one _ _
  · exact Scale.select_zero _ _

/-- The four chunks' exponents less 8, chunk `l % 4`'s at lane `l`. -/
def picked (t0 t1 t2 t3 : IVec S1024x128 32) : IVec S1024x128 32 := pick 3#32 t3 (pick 2#32 t2 (pick 1#32 t1 (pick 0#32 t0 k1_pay166)))

/-- The lane that holds group `l % 16`'s exponent. -/
def src (v : IVec S1024x128 32) : IVec S1024x128 32 :=
  select (k1_pay225 (k1_pay223 v) 4#32) (addi (k1_pay224 (k1_pay223 v) 4#32) (broadcast S1024x128 128#32)) (k1_pay224 (k1_pay223 v) 4#32)

theorem at223 (v : IVec S1024x128 32) (i : S1024x128.Idx) : k1_pay223 v i = k1_pay223 (fun _ => v i) (ix2 0 0) := by unfold k1_pay223; rfl
theorem at224 (v : IVec S1024x128 32) (i : S1024x128.Idx) : k1_pay224 v 4#32 i = k1_pay224 (fun _ => v i) 4#32 (ix2 0 0) := by unfold k1_pay224; rfl
theorem const223 (w : BitVec 32) : k1_pay223 (fun _ => w) = fun _ => k1_pay223 (fun _ => w) (ix2 0 0) := funext fun i => at223 _ i
theorem const224 (w : BitVec 32) : k1_pay224 (fun _ => w) 4#32 = fun _ => k1_pay224 (fun _ => w) 4#32 (ix2 0 0) := funext fun i => at224 _ i
theorem src_at (v : IVec S1024x128 32) (i : S1024x128.Idx) : src v i = src (fun _ => v i) (ix2 0 0) := by
  have e : k1_pay224 (k1_pay223 v) 4#32 i = k1_pay224 (k1_pay223 fun _ => v i) 4#32 (ix2 0 0) := by
    rw [at224, at223 v i, const223]
  have e' : k1_pay225 (k1_pay223 v) 4#32 i = k1_pay225 (k1_pay223 fun _ => v i) 4#32 (ix2 0 0) := by
    exact congrArg (fun w => IntOp.cmpi .slt w 0#32) e
  show Scalar.select (k1_pay225 (k1_pay223 v) 4#32 i) (IntOp.addi (k1_pay224 (k1_pay223 v) 4#32 i) 128#32) (k1_pay224 (k1_pay223 v) 4#32 i) = _
  rw [e, e']
  rfl

theorem src_apply (r : Fin 1024) (l : Fin 128) : (src lane (ix2 r l)).toNat % 128 = 32 * (l.val % 16 % 4) + l.val % 16 / 4 := by
  have h : ∀ l : Fin 128, (src (fun _ => BitVec.ofNat 32 l.val) (ix2 0 0)).toNat % 128 = 32 * (l.val % 16 % 4) + l.val % 16 / 4 := by decide +kernel
  rw [src_at, lane_apply]
  exact h l

theorem gather_src (P : IVec S1024x128 32) : k1_pay226 P (k1_pay224 (k1_pay223 lane) 4#32) (k1_pay225 (k1_pay223 lane) 4#32) 128#32 = gatherV P (src lane) := by
  unfold k1_pay226 gatherV src; rfl

theorem select_byte (C : BitVec 1) (a b : BitVec 32) :
    (Scalar.select C a b).setWidth 8 = if (Scalar.select C 1#32 0#32).setWidth 8 = 1#8 then a.setWidth 8 else b.setWidth 8 := by
  obtain rfl | rfl : C = 1#1 ∨ C = 0#1 := by revert C; decide
  · rw [Scale.select_one, Scale.select_one]; rfl
  · rw [Scale.select_zero, Scale.select_zero]; rfl

theorem store_at (w : BitVec 32) (v g old : IVec S1024x128 32) (i : S1024x128.Idx) :
    k1_pay1 w v g old (k1_pay228 v) (k1_pay229 v) k1_pay230 i
      = if (k1_pay1 w (fun _ => v i) (fun _ => 1#32) (fun _ => 0#32) (k1_pay228 fun _ => v i) (k1_pay229 fun _ => v i) k1_pay230 (ix2 0 0) = 1#8)
        then (g i).setWidth 8 else (old i).setWidth 8 := by
  unfold k1_pay1 k1_pay228 k1_pay229 k1_pay230
  exact select_byte _ _ _

/-- Lanes `16 (j % 8) …` take the new bytes, the others keep the old. -/
theorem store_apply (j : Fin 48) (g old : IVec S1024x128 32) (r : Fin 1024) (l : Fin 128) :
    k1_pay1 (BitVec.ofNat 32 j.val) lane g old (k1_pay228 lane) (k1_pay229 lane) k1_pay230 (ix2 r l)
      = if l.val / 16 = j.val % 8 then (g (ix2 r l)).setWidth 8 else (old (ix2 r l)).setWidth 8 := by
  have h : ∀ (j : Fin 48) (l : Fin 128),
      (k1_pay1 (BitVec.ofNat 32 j.val) (fun _ => BitVec.ofNat 32 l.val) (fun _ => 1#32) (fun _ => 0#32) (k1_pay228 fun _ => BitVec.ofNat 32 l.val)
        (k1_pay229 fun _ => BitVec.ofNat 32 l.val) k1_pay230 (ix2 0 0) = 1#8) ↔ l.val / 16 = j.val % 8 := by decide +kernel
  rw [store_at, lane_apply]
  simp only [h]

/-- The byte at a lane: that of the tile's group `l % 16`, where the lane is one of the tile's. -/
theorem bytes_tile (y : FVec Ideal S1024x512 .bf16) (t0 t1 t2 t3 : IVec S1024x128 32) (old : IVec S1024x128 32) (j : Fin 48)
    (h0 : ∀ (r : Fin 1024) (l : Fin 128), t0 (ix2 r l) = expK (tileMax y r ⟨0 + l.val, lt_tile (by decide) l⟩))
    (h1 : ∀ (r : Fin 1024) (l : Fin 128), t1 (ix2 r l) = expK (tileMax y r ⟨128 + l.val, lt_tile (by decide) l⟩))
    (h2 : ∀ (r : Fin 1024) (l : Fin 128), t2 (ix2 r l) = expK (tileMax y r ⟨256 + l.val, lt_tile (by decide) l⟩))
    (h3 : ∀ (r : Fin 1024) (l : Fin 128), t3 (ix2 r l) = expK (tileMax y r ⟨384 + l.val, lt_tile (by decide) l⟩))
    (r : Fin 1024) (l : Fin 128) :
    k1_pay1 (BitVec.ofNat 32 j.val) lane (gatherV (picked t0 t1 t2 t3) (src lane)) old (k1_pay228 lane) (k1_pay229 lane) k1_pay230 (ix2 r l)
      = if l.val / 16 = j.val % 8 then grpBytes (m := 1024) (n := 512) (q := 16) (by decide) y (ix2 r ⟨l.val % 16, by omega⟩)
        else (old (ix2 r l)).setWidth 8 := by
  rw [store_apply]
  have hl := l.isLt
  have hg : gatherV (picked t0 t1 t2 t3) (src lane) (ix2 r l)
      = IntOp.subi (expK (tileMax y r ⟨32 * (l.val % 16), by omega⟩)) 8#32 := by
    rw [gatherV_apply _ _ r l ⟨32 * (l.val % 16 % 4) + l.val % 16 / 4, by omega⟩ (src_apply r l)]
    unfold picked
    generalize hk : (⟨32 * (l.val % 16 % 4) + l.val % 16 / 4, by omega⟩ : Fin 128) = k
    have hv : k.val = 32 * (l.val % 16 % 4) + l.val % 16 / 4 := by rw [← hk]
    have hc : ∀ o : ℕ, (l.val % 16) / 4 = o / 128 → o % 128 = 0 → ∀ hb, tileMax y r ⟨o + k.val, hb⟩ = tileMax y r ⟨32 * (l.val % 16), by omega⟩ := by
      intro o ho h0 hb
      have e : (o + k.val) / 32 = 32 * (l.val % 16) / 32 := by omega
      unfold tileMax grpMax
      simp only [e]
    rw [show (3#32 : BitVec 32) = BitVec.ofNat 32 (3 : Fin 4).val from rfl, pick_apply, show (2#32 : BitVec 32) = BitVec.ofNat 32 (2 : Fin 4).val from rfl,
      pick_apply, show (1#32 : BitVec 32) = BitVec.ofNat 32 (1 : Fin 4).val from rfl, pick_apply, show (0#32 : BitVec 32) = BitVec.ofNat 32 (0 : Fin 4).val from rfl,
      pick_apply, h0, h1, h2, h3]
    have hq : l.val % 16 / 4 < 4 := by omega
    have hm : k.val % 4 = l.val % 16 / 4 := by omega
    rw [hm]
    rcases (by omega : l.val % 16 / 4 = 0 ∨ l.val % 16 / 4 = 1 ∨ l.val % 16 / 4 = 2 ∨ l.val % 16 / 4 = 3) with q | q | q | q
    · rw [q]; rw [if_neg (by decide), if_neg (by decide), if_neg (by decide), if_pos (by decide), hc 0 (by omega) rfl]
    · rw [q]; rw [if_neg (by decide), if_neg (by decide), if_pos (by decide), hc 128 (by omega) rfl]
    · rw [q]; rw [if_neg (by decide), if_pos (by decide), hc 256 (by omega) rfl]
    · rw [q]; rw [if_pos (by decide), hc 384 (by omega) rfl]
  rw [hg]
  rfl

end Cert.KernelIdeal.Value

end
-- ==== Proof.Val.Linear.lean ====
/- A matrix product with the transposed right operand, scaled by a column and added to a matrix, over the extended reals. -/
module

public import Idealize.ShloMosaic.Lib.MatmulPlain
public import proofs.«01_k».proof.Proof.Val.Spec

@[expose] public section

set_option maxRecDepth 16384

noncomputable section

namespace Cert.Scale

open Idealize.ShloMosaic Idealize.ShloMosaic.ValueIdx

/-- The printed product of an `M × K` by the transpose of an `N × K`, times a column spread over the lanes, plus a matrix, is
    `linear` of the four. -/
theorem linear_apply {M K N : ℕ} (d : DotDims ⟨2, ![M, K]⟩ ⟨2, ![N, K]⟩ ⟨2, ![M, N]⟩) (hd : d = DotDims.transposedRhs M K N)
    (a : FVec Ideal ⟨2, ![M, K]⟩ .bf16) (b : FVec Ideal ⟨2, ![N, K]⟩ .bf16) (s : FVec Ideal ⟨2, ![M, 1]⟩ .f32) (r : Mat M N)
    (hb : (⟨2, ![M, 1]⟩ : Shape).Broadcasts ⟨2, ![M, N]⟩) (hM : M ≠ 1) (p : Fin M) (q : Fin N) :
    matmul d none a b (constant ⟨2, ![M, N]⟩ .f32 0x00000000#32) (ix2 p q) * broadcastTo ⟨2, ![M, N]⟩ s hb (ix2 p q) + r (ix2 p q)
      = linear a s b r (ix2 p q) := by
  subst hd
  have hs : broadcastTo ⟨2, ![M, N]⟩ s hb (ix2 p q) = s (ix2 p 0) := by
    refine broadcastTo_apply s hb (ix2 p q) (ix2 p 0) fun a => ?_
    fin_cases a
    · exact (if_neg hM).symm
    · rfl
  rw [hs]
  simp only [matmul]
  rw [Ideal.matmul_transposedRhs_apply]
  show (Ideal.ofBits .f32 0x00000000#32 + _) * _ + _ = _
  rw [Ideal.ofBits_zero_f32, zero_add]
  rfl

end Cert.Scale

end
-- ==== Proof.Val.KBody.lean ====
/- What one point of the second call's grid leaves, over the extended reals: the tile of the product, its codes, and its bytes
   at sixteen of the columns. -/
module

public import Idealize.ShloMosaic.Lib.WritesUnit
public import proofs.«01_k».proof.Proof.Val.KWeights
public import proofs.«01_k».proof.Proof.Val.KTile
public import proofs.«01_k».proof.Proof.Val.Linear

@[expose] public section

set_option maxRecDepth 16384

noncomputable section

namespace Cert.KernelIdeal.Value

open Cert.KernelIdeal Cert.KernelIdeal.Gen Cert.Scale
open Idealize.ShloMosaic Idealize.ShloMosaic.TcCoe Idealize.ShloMosaic.ValueIdx

/-- The printed product is `linear`. -/
theorem linear_pay (a : Vec Ideal S1024x8192 .bf16) (b : Vec Ideal S512x8192 .bf16) (s : Vec Ideal S1024x1 .f32) (d : Vec Ideal S1024x512 .bf16) :
    k1_pay165 a b s d = linear a s b d := by
  funext (i : S1024x512.Idx)
  obtain ⟨p, q, rfl⟩ : ∃ (p : Fin 1024) (q : Fin 512), i = ix2 p q := ⟨i 0, i 1, eq_ix2 i⟩
  have h := linear_apply (M := 1024) (K := 8192) (N := 512) dot_S1024x8192_S512x8192_S1024x512_1_1_0_0_n_n rfl a b s d
    broadcasts_S1024x1_S1024x512 (by decide) p q
  unfold k1_pay165
  rw [shapeCast_self, shapeCast_self]
  exact h

section
variable (c : Dev nD) (i : grid1.Coords) (arg2 : Memref sig .tc .vmem S1024x8192 .fp8e4m3) (harg2 : arg2.IsWhole) (arg3 : Memref sig .tc .vmem S1024x1 .f32) (harg3 : arg3.IsWhole)
  (arg4 : Memref sig .tc .vmem S512x8192 .fp8e4m3) (harg4 : arg4.IsWhole) (arg5 : Memref sig .tc .vmem S512x256 .i8) (harg5 : arg5.IsWhole)
  (arg6 : Memref sig .tc .vmem S1024x512 .bf16) (harg6 : arg6.IsWhole) (arg7 : Memref sig .tc .vmem S1024x512 .bf16) (harg7 : arg7.IsWhole)
  (arg8 : Memref sig .tc .vmem S1024x512 .fp8e4m3) (harg8 : arg8.IsWhole) (arg9 : Memref sig .tc .vmem S1024x768 .i8) (harg9 : arg9.IsWhole)
  (arg10 : Memref sig .tc .vmem S1024x8192 .bf16) (harg10 : arg10.IsWhole) (arg11 : Memref sig .tc .vmem S512x8192 .bf16) (harg11 : arg11.IsWhole)
  (x0 : Vec Ideal S1024x8192 .fp8e4m3) (x1 : Vec Ideal S1024x1 .f32) (x2 : Vec Ideal S512x8192 .fp8e4m3) (x3 : Vec Ideal S512x256 .i8)
  (x4 : Vec Ideal S1024x512 .bf16) (d9 : Vec Ideal S1024x768 .i8) (xb : Vec Ideal S1024x8192 .bf16)

/-- The tile of the product at a point of the grid. -/
def tile (A : Mat 1024 8192) (x1 : Mat 1024 1) (x2 : Mat 512 8192) (x3 : Bytes 512 256) (x4 : Mat 1024 512) : Mat 1024 512 :=
  linear A x1 (weights (n := 512) (by decide : 8192 = 32 * 256) x2 x3) x4

theorem kept : Body.run.sl.v2638 c i arg2 harg2 arg10 harg10 x0 xb = Body.keep i x0 xb := by
  rw [← Body.keep_read i arg2 harg2 arg10 harg10 x0 xb]
  unfold Body.run.sl.v2638
  rw [View.readAt_eq_ld, View.ld_unit_lit _ _ (by decide)]
  rfl

theorem prod_eq : Body.run.sl.r_16 c i arg2 harg2 arg3 harg3 arg4 harg4 arg5 harg5 arg6 harg6 arg10 harg10 arg11 x0 x1 x2 x3 x4 xb
    = tile (Body.keep i x0 xb) x1 x2 x3 x4 := by
  unfold Body.run.sl.r_16
  rw [kept, scratch_eq, View.readAt_eq_ld, View.readAt_eq_ld, harg3.read_unread, harg6.read_unread, View.ld_unit_lit _ _ (by decide),
    View.ld_unit_lit _ _ (by decide), linear_pay]
  rfl

/-- The first result's block is the tile. -/
theorem o7_eq : (Body.run c i arg2 harg2 arg3 harg3 arg4 harg4 arg5 harg5 arg6 harg6 arg7 harg7 arg8 harg8 arg9 harg9 arg10 harg10 arg11 harg11 x0 x1 x2 x3 x4 d9 xb).1
    = tile (Body.keep i x0 xb) x1 x2 x3 x4 := by
  rw [← prod_eq c i arg2 harg2 arg3 harg3 arg4 harg4 arg5 harg5 arg6 harg6 arg10 harg10 arg11 x0 x1 x2 x3 x4 xb]
  unfold Body.run
  dsimp only
  rw [View.canon_cons_unit_lit _ _ _ (by decide)]
  rfl

/-! ## The chunks' exponents and codes -/

theorem exps0 : Body.run.sl.r_24 c i arg2 harg2 arg3 harg3 arg4 harg4 arg5 harg5 arg6 harg6 arg10 harg10 arg11 x0 x1 x2 x3 x4 xb = expC (sl0 (Body.run.sl.r_16 c i arg2 harg2 arg3 harg3 arg4 harg4 arg5 harg5 arg6 harg6 arg10 harg10 arg11 x0 x1 x2 x3 x4 xb)) := by
  unfold Body.run.sl.r_24 Body.run.sl.r_22 Body.run.sl.r_23 Body.run.sl.r_20 Body.run.sl.r_21 Body.run.sl.r_19 Body.run.sl.r_18 Body.run.sl.r_16
  rw [exp0, gmax0]; rfl
theorem exps1 : Body.run.sl.r_32 c i arg2 harg2 arg3 harg3 arg4 harg4 arg5 harg5 arg6 harg6 arg10 harg10 arg11 x0 x1 x2 x3 x4 xb = expC (k1_pay182 (Body.run.sl.r_16 c i arg2 harg2 arg3 harg3 arg4 harg4 arg5 harg5 arg6 harg6 arg10 harg10 arg11 x0 x1 x2 x3 x4 xb)) := by
  unfold Body.run.sl.r_32 Body.run.sl.r_30 Body.run.sl.r_31 Body.run.sl.r_28 Body.run.sl.r_29 Body.run.sl.r_27
  rw [show Body.run.sl.v2651 = lane from rfl, exp1, gmax1]; rfl
theorem exps2 : Body.run.sl.r_42 c i arg2 harg2 arg3 harg3 arg4 harg4 arg5 harg5 arg6 harg6 arg10 harg10 arg11 x0 x1 x2 x3 x4 xb = expC (k1_pay195 (Body.run.sl.r_16 c i arg2 harg2 arg3 harg3 arg4 harg4 arg5 harg5 arg6 harg6 arg10 harg10 arg11 x0 x1 x2 x3 x4 xb)) := by
  unfold Body.run.sl.r_42 Body.run.sl.r_40 Body.run.sl.r_41 Body.run.sl.r_38 Body.run.sl.r_39 Body.run.sl.r_37 Body.run.sl.r_36
  rw [show Body.run.sl.v2651 = lane from rfl, exp2, gmax2]; rfl
theorem exps3 : Body.run.sl.r_50 c i arg2 harg2 arg3 harg3 arg4 harg4 arg5 harg5 arg6 harg6 arg10 harg10 arg11 x0 x1 x2 x3 x4 xb = expC (k1_pay210 (Body.run.sl.r_16 c i arg2 harg2 arg3 harg3 arg4 harg4 arg5 harg5 arg6 harg6 arg10 harg10 arg11 x0 x1 x2 x3 x4 xb)) := by
  unfold Body.run.sl.r_50 Body.run.sl.r_48 Body.run.sl.r_49 Body.run.sl.r_46 Body.run.sl.r_47 Body.run.sl.r_45
  rw [show Body.run.sl.v2651 = lane from rfl, exp3, gmax3]; rfl

theorem chunk0 : k1_pay179 (Body.run.sl.r_17 c i arg2 harg2 arg3 harg3 arg4 harg4 arg5 harg5 arg6 harg6 arg10 harg10 arg11 x0 x1 x2 x3 x4 xb) (Body.run.sl.r_19 c i arg2 harg2 arg3 harg3 arg4 harg4 arg5 harg5 arg6 harg6 arg10 harg10 arg11 x0 x1 x2 x3 x4 xb) (Body.run.sl.r_22 c i arg2 harg2 arg3 harg3 arg4 harg4 arg5 harg5 arg6 harg6 arg10 harg10 arg11 x0 x1 x2 x3 x4 xb) (Body.run.sl.r_23 c i arg2 harg2 arg3 harg3 arg4 harg4 arg5 harg5 arg6 harg6 arg10 harg10 arg11 x0 x1 x2 x3 x4 xb) k1_pay177 = codesC (sl0 (Body.run.sl.r_16 c i arg2 harg2 arg3 harg3 arg4 harg4 arg5 harg5 arg6 harg6 arg10 harg10 arg11 x0 x1 x2 x3 x4 xb)) := by
  have h := exps0 c i arg2 harg2 arg3 harg3 arg4 harg4 arg5 harg5 arg6 harg6 arg10 harg10 arg11 x0 x1 x2 x3 x4 xb
  unfold Body.run.sl.r_24 at h
  rw [show (Body.run.sl.r_17 c i arg2 harg2 arg3 harg3 arg4 harg4 arg5 harg5 arg6 harg6 arg10 harg10 arg11 x0 x1 x2 x3 x4 xb) = sl0 (Body.run.sl.r_16 c i arg2 harg2 arg3 harg3 arg4 harg4 arg5 harg5 arg6 harg6 arg10 harg10 arg11 x0 x1 x2 x3 x4 xb) from by unfold Body.run.sl.r_17 Body.run.sl.r_16; exact pay167 _ _ _ _]
  exact codes0 _ _ _ _ _ h
theorem chunk1 : k1_pay193 (Body.run.sl.r_33 c i arg2 harg2 arg3 harg3 arg4 harg4 arg5 harg5 arg6 harg6 arg10 harg10 arg11 x0 x1 x2 x3 x4 xb) Body.run.sl.cst_915 k1_pay192 = codesC (k1_pay182 (Body.run.sl.r_16 c i arg2 harg2 arg3 harg3 arg4 harg4 arg5 harg5 arg6 harg6 arg10 harg10 arg11 x0 x1 x2 x3 x4 xb)) := by
  have h := exps1 c i arg2 harg2 arg3 harg3 arg4 harg4 arg5 harg5 arg6 harg6 arg10 harg10 arg11 x0 x1 x2 x3 x4 xb
  unfold Body.run.sl.r_32 at h
  exact codes1 _ _ _ _ _ h
theorem chunk2 : k1_pay207 (Body.run.sl.r_35 c i arg2 harg2 arg3 harg3 arg4 harg4 arg5 harg5 arg6 harg6 arg10 harg10 arg11 x0 x1 x2 x3 x4 xb) (Body.run.sl.r_37 c i arg2 harg2 arg3 harg3 arg4 harg4 arg5 harg5 arg6 harg6 arg10 harg10 arg11 x0 x1 x2 x3 x4 xb) (Body.run.sl.r_40 c i arg2 harg2 arg3 harg3 arg4 harg4 arg5 harg5 arg6 harg6 arg10 harg10 arg11 x0 x1 x2 x3 x4 xb) (Body.run.sl.r_41 c i arg2 harg2 arg3 harg3 arg4 harg4 arg5 harg5 arg6 harg6 arg10 harg10 arg11 x0 x1 x2 x3 x4 xb) k1_pay205 = codesC (k1_pay195 (Body.run.sl.r_16 c i arg2 harg2 arg3 harg3 arg4 harg4 arg5 harg5 arg6 harg6 arg10 harg10 arg11 x0 x1 x2 x3 x4 xb)) := by
  have h := exps2 c i arg2 harg2 arg3 harg3 arg4 harg4 arg5 harg5 arg6 harg6 arg10 harg10 arg11 x0 x1 x2 x3 x4 xb
  unfold Body.run.sl.r_42 at h
  exact codes2 _ _ _ _ _ h
theorem chunk3 : k1_pay221 (Body.run.sl.r_51 c i arg2 harg2 arg3 harg3 arg4 harg4 arg5 harg5 arg6 harg6 arg10 harg10 arg11 x0 x1 x2 x3 x4 xb) Body.run.sl.cst_915 k1_pay220 = codesC (k1_pay210 (Body.run.sl.r_16 c i arg2 harg2 arg3 harg3 arg4 harg4 arg5 harg5 arg6 harg6 arg10 harg10 arg11 x0 x1 x2 x3 x4 xb)) := by
  have h := exps3 c i arg2 harg2 arg3 harg3 arg4 harg4 arg5 harg5 arg6 harg6 arg10 harg10 arg11 x0 x1 x2 x3 x4 xb
  unfold Body.run.sl.r_50 at h
  exact codes3 _ _ _ _ _ h

/-- A chunk stored at its columns holds the tile's codes. -/
theorem chunk_holds (o : ℕ) (ho : o + 128 ≤ 512) (hd : o % 128 = 0) (inb) (y : Mat 1024 512) (x : FVec Ideal S1024x128 .f32)
    (hx : ∀ (r : Fin 1024) (l : Fin 128), x (ix2 r l) = y (ix2 r ⟨o + l.val, lt_tile ho l⟩)) (p : Vec Ideal S1024x128 .fp8e4m3) (hp : p = codesC x) :
    ∀ z, (⟨Rect.unit (s := S1024x512) ![0, o] S1024x128.size inb, p⟩ : View.Piece (Elt Ideal) S1024x512 .fp8e4m3).2 z
      = grpCodes (m := 1024) (n := 512) (by decide) y ((Rect.unit (s := S1024x512) ![0, o] S1024x128.size inb).emb z) := by
  intro (z : S1024x128.Idx)
  subst hp
  obtain ⟨r, l, rfl⟩ : ∃ (r : Fin 1024) (l : Fin 128), z = ix2 r l := ⟨z 0, z 1, eq_ix2 z⟩
  refine (codes_tile y x o ho hx hd r l).trans (congrArg _ ?_)
  refine funext fun a => Fin.ext (Eq.trans ?_ (Rect.idx_unit_val _ _ _ _ a).symm)
  fin_cases a
  · exact (Nat.zero_add _).symm
  · rfl

/-- The second result's block is the tile's codes. -/
theorem o8_eq : (Body.run c i arg2 harg2 arg3 harg3 arg4 harg4 arg5 harg5 arg6 harg6 arg7 harg7 arg8 harg8 arg9 harg9 arg10 harg10 arg11 harg11 x0 x1 x2 x3 x4 d9 xb).2.1
    = grpCodes (m := 1024) (n := 512) (by decide) (tile (Body.keep i x0 xb) x1 x2 x3 x4) := by
  rw [← prod_eq c i arg2 harg2 arg3 harg3 arg4 harg4 arg5 harg5 arg6 harg6 arg10 harg10 arg11 x0 x1 x2 x3 x4 xb]
  unfold Body.run
  dsimp only
  rw [chunk0, chunk1, chunk2, chunk3]
  funext j
  refine View.canon_apply_of_pieces _ _ ?_ j (Body.cover8 (F := Ideal) _ _ _ _ j)
  refine List.forall_mem_cons.2 ⟨chunk_holds 384 (by decide) rfl _ _ _ (sl3_apply _) _ rfl, ?_⟩
  refine List.forall_mem_cons.2 ⟨chunk_holds 256 (by decide) rfl _ _ _ (sl2_apply _) _ rfl, ?_⟩
  refine List.forall_mem_cons.2 ⟨chunk_holds 128 (by decide) rfl _ _ _ (sl1_apply _) _ rfl, ?_⟩
  refine List.forall_mem_cons.2 ⟨chunk_holds 0 (by decide) rfl _ _ _ (sl0_apply _) _ rfl, ?_⟩
  exact List.forall_mem_nil _

/-! ## The bytes -/

/-- A point of the grid at column tile `j`. -/
def colPoint (j : Fin 48) : grid1.Coords := fun a => match a with | 0 => (0 : Fin 8) | 1 => j

/-- The first of the 128 columns a point loads and stores: those of the eight tiles around its own. -/
theorem off_eq : k1_off1 i = ![0, 128 * ((i 1).val / 8)] := by
  have h : ∀ j : Fin 48, k1_off1 (colPoint j) 1 = 128 * (j.val / 8) := by decide +kernel
  have h1 : k1_off1 i 1 = k1_off1 (colPoint (i 1)) 1 := by unfold k1_off1; rfl
  funext a
  fin_cases a
  · rfl
  · exact h1.trans (h (i 1))

theorem gathered : Body.run.sl.r_55 c i arg2 harg2 arg3 harg3 arg4 harg4 arg5 harg5 arg6 harg6 arg10 harg10 arg11 x0 x1 x2 x3 x4 xb
    = gatherV (picked (Body.run.sl.r_24 c i arg2 harg2 arg3 harg3 arg4 harg4 arg5 harg5 arg6 harg6 arg10 harg10 arg11 x0 x1 x2 x3 x4 xb) (Body.run.sl.r_32 c i arg2 harg2 arg3 harg3 arg4 harg4 arg5 harg5 arg6 harg6 arg10 harg10 arg11 x0 x1 x2 x3 x4 xb) (Body.run.sl.r_42 c i arg2 harg2 arg3 harg3 arg4 harg4 arg5 harg5 arg6 harg6 arg10 harg10 arg11 x0 x1 x2 x3 x4 xb) (Body.run.sl.r_50 c i arg2 harg2 arg3 harg3 arg4 harg4 arg5 harg5 arg6 harg6 arg10 harg10 arg11 x0 x1 x2 x3 x4 xb)) (src lane) := by
  unfold Body.run.sl.r_55 Body.run.sl.r_53 Body.run.sl.r_54 Body.run.sl.r_52 Body.run.sl.r_43 Body.run.sl.r_34 Body.run.sl.r_25
  rw [show Body.run.sl.v2651 = lane from rfl, pick0, pick1, pick2, pick3, gather_src]
  rfl

theorem exp_tile (o : ℕ) (ho : o + 128 ≤ 512) (hd : o % 128 = 0) (y : Mat 1024 512) (x : FVec Ideal S1024x128 .f32)
    (hx : ∀ (r : Fin 1024) (l : Fin 128), x (ix2 r l) = y (ix2 r ⟨o + l.val, lt_tile ho l⟩)) (r : Fin 1024) (l : Fin 128) :
    expC x (ix2 r l) = expK (tileMax y r ⟨o + l.val, lt_tile ho l⟩) :=
  congrArg expK (gmax_tile y x o ho hx hd r l)

/-- The third result's block: the tile's bytes at its sixteen columns, the others as they were. -/
theorem o9_eq (r : Fin 1024) (q : Fin 768) : (Body.run c i arg2 harg2 arg3 harg3 arg4 harg4 arg5 harg5 arg6 harg6 arg7 harg7 arg8 harg8 arg9 harg9 arg10 harg10 arg11 harg11 x0 x1 x2 x3 x4 d9 xb).2.2.1 (ix2 r q)
    = if q.val / 16 = (i 1).val then grpBytes (m := 1024) (n := 512) (q := 16) (by decide) (tile (Body.keep i x0 xb) x1 x2 x3 x4) (ix2 r ⟨q.val % 16, by omega⟩)
      else d9 (ix2 r q) := by
  rw [← prod_eq c i arg2 harg2 arg3 harg3 arg4 harg4 arg5 harg5 arg6 harg6 arg10 harg10 arg11 x0 x1 x2 x3 x4 xb]
  unfold Body.run
  dsimp only
  have hj : (i 1).val < 48 := (i 1).isLt
  by_cases h : q.val / 128 = (i 1).val / 8
  · refine (View.read_writes_cons_unit_of_mem _ _ _ _ _ (ix2 r q) (ix2 r (⟨q.val % 128, by omega⟩ : Fin 128)) (off_eq i) fun a => ?_).trans ?_
    · fin_cases a
      · exact (Nat.zero_add _).symm
      · show q.val = 128 * ((i 1).val / 8) + q.val % 128
        omega
    rw [gathered, exps0, exps1, exps2, exps3]
    refine (bytes_tile _ _ _ _ _ _ ⟨(i 1).val, hj⟩ (exp_tile 0 (by decide) rfl _ _ (sl0_apply _)) (exp_tile 128 (by decide) rfl _ _ (sl1_apply _))
      (exp_tile 256 (by decide) rfl _ _ (sl2_apply _)) (exp_tile 384 (by decide) rfl _ _ (sl3_apply _)) r ⟨q.val % 128, by omega⟩).trans ?_
    have hold : (Body.run.sl.r_56 c i arg9 harg9 d9 (ix2 r (⟨q.val % 128, by omega⟩ : Fin 128))).setWidth 8 = d9 (ix2 r q) := by
      have e : ((Rect.unit (s := S1024x768) (k1_off1 i) S1024x128.size (k1_off1_inb i)).idx (ix2 r (⟨q.val % 128, by omega⟩ : Fin 128))) = ix2 r q := by
        refine funext fun a => Fin.ext ((Rect.idx_unit_val _ _ _ _ a).trans ?_)
        refine (congrArg (· + _) (congrFun (off_eq i) a)).trans ?_
        fin_cases a
        · exact Nat.zero_add _
        · show 128 * ((i 1).val / 8) + q.val % 128 = q.val
          omega
      unfold Body.run.sl.r_56 k1_pay227
      rw [shapeCast_self, View.readAt_eq_ld, harg9.read_unread]
      show BitVec.setWidth 8 (BitVec.setWidth 32 (d9 ((Rect.unit (s := S1024x768) (k1_off1 i) S1024x128.size (k1_off1_inb i)).idx (ix2 r (⟨q.val % 128, by omega⟩ : Fin 128))))) = _
      rw [e]
      exact BitVec.eq_of_toNat_eq (by simp)
    have hm : (⟨q.val % 128 % 16, by omega⟩ : Fin 16) = ⟨q.val % 16, by omega⟩ := Fin.ext (by show q.val % 128 % 16 = q.val % 16; omega)
    by_cases hk : q.val / 16 = (i 1).val
    · rw [if_pos (by show q.val % 128 / 16 = (i 1).val % 8; omega), if_pos hk, hm]
    · rw [if_neg (by show ¬ q.val % 128 / 16 = (i 1).val % 8; omega), if_neg hk, hold]
  · rw [if_neg (by omega)]
    refine (View.read_writes_cons_unit_of_not_mem _ _ _ _ _ (ix2 r q) (off_eq i) 1 ?_).trans ?_
    · show q.val < 128 * ((i 1).val / 8) ∨ 128 * ((i 1).val / 8) + 128 ≤ q.val
      omega
    · exact congrFun (harg9.read_unread d9) _

end

end Cert.KernelIdeal.Value

end
-- ==== Proof.Val.KQuant.lean ====
/- The first kernel call over the extended reals: the codes and the scales it leaves are those of the rows of its operand. -/
module

public import proofs.«01_k».proof.Proof.KerIdeal.Run
public import proofs.«01_k».proof.Proof.Val.Spec
public import Idealize.ShloMosaic.Lib.Pipeline.ValueKit.Basic

@[expose] public section

set_option maxRecDepth 16384

noncomputable section

namespace Cert.KernelIdeal.Value

open Cert.KernelIdeal Cert.KernelIdeal.Gen Cert.Scale
open Idealize.ShloMosaic Idealize.ShloMosaic.TcCoe Idealize.ShloMosaic.ValueIdx
open Idealize.SL.Sem
open Idealize.ShloMosaic.Pipeline (Dat Cfg Window)

/-! ## The body's values -/

theorem k0_pay5_apply (x : Vec Ideal S128x8192 .bf16) (i : S128x1.Idx) : k0_pay5 x i = rowMax x (i 0) := by
  unfold k0_pay5 k0_pay4
  rw [shapeCast_self]
  obtain ⟨r, q, rfl⟩ : ∃ (r : Fin 128) (q : Fin 1), i = ix2 r q := ⟨_, _, eq_ix2 i⟩
  refine (shapeCast_apply _ _ _ (ix1 r) ?_).trans ?_
  · rw [Shape.rowMajor_val_one, Shape.rowMajor_val_two]
    have := q.isLt
    show r.val = r.val * 1 + q.val
    omega
  · refine (Ideal.multiReduction_maximumf_single _ _ _ _ _ _).trans ?_
    have hl : ∀ k : Fin 8192, reduces_S128x8192_S128.lift (ix1 r) k = (ix2 r k : S128x8192.Idx) := fun k =>
      funext fun a => Fin.ext (by fin_cases a <;> rfl)
    exact congrArg (fun f : Fin 8192 → EReal => Finset.fold max (Ideal.ofBits .f32 0xFF800000#32) f Finset.univ)
      (funext fun k => congrArg (fun i => max (x i) (-(x i))) (hl k))

theorem exp_pay (x : Vec Ideal S128x8192 .bf16) :
    k0_pay1 (k0_pay5 x) (k0_pay8 (k0_pay5 x) (k0_pay6 x) (k0_pay7 x)) (k0_pay9 (k0_pay5 x) (k0_pay6 x) (k0_pay7 x)) = expV (k0_pay5 x) := by
  have e6 : k0_pay6 x = stepV (k0_pay5 x) (stepV (k0_pay5 x) (stepV (k0_pay5 x) (broadcast _ 0#32) (broadcast _ 128#32)) (broadcast _ 64#32)) (broadcast _ 32#32) := by
    unfold k0_pay6; dsimp only; iterate 3 rw [stepV_fold]
  have e8 : k0_pay8 (k0_pay5 x) (k0_pay6 x) (k0_pay7 x) = stepV (k0_pay5 x) (stepV (k0_pay5 x) (stepV (k0_pay5 x) (stepV (k0_pay5 x) (k0_pay6 x) (broadcast _ 16#32)) (broadcast _ 8#32)) (broadcast _ 4#32)) (broadcast _ 2#32) := by
    unfold k0_pay8 k0_pay7; dsimp only; iterate 4 rw [stepV_fold]
  unfold k0_pay1 k0_pay9
  dsimp only
  rw [e8, e6, stepV_fold, expV_fold]

theorem codes_pay (x : Vec Ideal S128x8192 .bf16) :
    k0_pay2 (k0_pay4 x) (k0_pay5 x) (k0_pay8 (k0_pay5 x) (k0_pay6 x) (k0_pay7 x)) (k0_pay9 (k0_pay5 x) (k0_pay6 x) (k0_pay7 x)) = rowCodes x := by
  unfold k0_pay2
  rw [exp_pay]
  dsimp only
  rw [powV_fold, clipV_fold]
  funext i
  obtain ⟨r, k, rfl⟩ : ∃ (r : Fin 128) (k : Fin 8192), i = ix2 r k := ⟨_, _, eq_ix2 i⟩
  have hb : broadcastTo S128x8192 (powV (subi (broadcast S128x1 135#32) (expV (k0_pay5 x)))) broadcasts_S128x1_S128x8192 (ix2 r k)
      = powK (IntOp.subi 135#32 (expK (rowMax x r))) :=
    (broadcastTo_apply _ _ _ (ix2 r 0) (by intro a; fin_cases a <;> rfl)).trans
      (congrArg (fun e => powK (IntOp.subi 135#32 (expK e))) (k0_pay5_apply x (ix2 r 0)))
  have hx : k0_pay4 x (ix2 r k) = x (ix2 r k) := by unfold k0_pay4; rw [shapeCast_self]; rfl
  exact congrArg₂ clip hx hb

theorem scales_pay (x : Vec Ideal S128x8192 .bf16) :
    k0_pay3 (k0_pay5 x) (k0_pay8 (k0_pay5 x) (k0_pay6 x) (k0_pay7 x)) (k0_pay9 (k0_pay5 x) (k0_pay6 x) (k0_pay7 x)) = rowScales x := by
  unfold k0_pay3
  rw [exp_pay]
  dsimp only
  rw [powV_fold]
  exact funext fun i => congrArg (fun e => powK (IntOp.subi (expK e) 135#32)) (k0_pay5_apply x i)

theorem out0_1_eq (x : Vec Ideal S128x8192 .bf16) : Quant.out0_1 x = rowCodes x := by
  unfold Quant.out0_1 Quant.val0_pay14 Quant.val0_pay13 Quant.val0_pay12 Quant.val0_pay11 Quant.val0_pay10
  rw [View.canon_cons_unit_lit _ _ _ (by decide), View.ld_unit_lit _ _ (by decide), codes_pay]
theorem out0_2_eq (x : Vec Ideal S128x8192 .bf16) : Quant.out0_2 x = rowScales x := by
  unfold Quant.out0_2 Quant.val0_pay14 Quant.val0_pay13 Quant.val0_pay12 Quant.val0_pay11 Quant.val0_pay10
  rw [View.canon_cons_unit_lit _ _ _ (by decide), View.ld_unit_lit _ _ (by decide), scales_pay]

/-! ## The arrays -/

theorem index0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0))

theorem N0 : cfg0.N = 64 := by decide +kernel

variable (m : (ℓ : Loc nD τ sig) → Buf (Elt Ideal) ℓ)

/-- The operand as a matrix. -/
def xmat (c : Dev nD) : Mat 8192 8192 := V1 m c main_v0

/-- The element of the array a block's element is. -/
theorem emb0_0 (t : Fin cfg0.N) (y : S128x8192.Idx) :
    (((cfg0.win 0).blk t).view.emb y : S8192x8192.Idx)
      = ix2 ⟨128 * t.val + (y 0).val, by have h := t.isLt; have h' : (y 0).val < 128 := (y 0).isLt; have h0 := N0; omega⟩ (y 1) := by
  refine funext fun a => Fin.ext ?_
  refine (Window.rect_emb_val win0_0 t y a).trans ?_
  obtain ⟨h0, h1⟩ := (index0 t).1
  fin_cases a
  · show win0_0.index t 0 * 128 + (y 0).val = 128 * t.val + (y 0).val
    rw [h0]; omega
  · show win0_0.index t 1 * 8192 + (y 1).val = (y 1).val
    rw [h1]; omega
theorem emb0_1 (t : Fin cfg0.N) (y : S128x8192.Idx) :
    (((cfg0.win 1).blk t).view.emb y : S8192x8192.Idx)
      = ix2 ⟨128 * t.val + (y 0).val, by have h := t.isLt; have h' : (y 0).val < 128 := (y 0).isLt; have h0 := N0; omega⟩ (y 1) := by
  refine funext fun a => Fin.ext ?_
  refine (Window.rect_emb_val win0_1 t y a).trans ?_
  obtain ⟨h0, h1⟩ := (index0 t).2.1
  fin_cases a
  · show win0_1.index t 0 * 128 + (y 0).val = 128 * t.val + (y 0).val
    rw [h0]; omega
  · show win0_1.index t 1 * 8192 + (y 1).val = (y 1).val
    rw [h1]; omega
theorem emb0_2 (t : Fin cfg0.N) (y : S128x1.Idx) :
    (((cfg0.win 2).blk t).view.emb y : S8192x1.Idx)
      = ix2 ⟨128 * t.val + (y 0).val, by have h := t.isLt; have h' : (y 0).val < 128 := (y 0).isLt; have h0 := N0; omega⟩ (y 1) := by
  refine funext fun a => Fin.ext ?_
  refine (Window.rect_emb_val win0_2 t y a).trans ?_
  obtain ⟨h0, h1⟩ := (index0 t).2.2
  fin_cases a
  · show win0_2.index t 0 * 128 + (y 0).val = 128 * t.val + (y 0).val
    rw [h0]; omega
  · show win0_2.index t 1 * 1 + (y 1).val = (y 1).val
    rw [h1]; omega

/-- A block of the operand is its rows. -/
theorem iblk0 (c : Dev nD) (t : Fin cfg0.N) (y : S128x8192.Idx) :
    Quant.iblk (fun c b => V1 m c b) c 0 t y
      = xmat m c (ix2 ⟨128 * t.val + (y 0).val, by have h := t.isLt; have h' : (y 0).val < 128 := (y 0).isLt; have h0 := N0; omega⟩ (y 1)) :=
  congrArg (xmat m c) (emb0_0 t y)

/-- The codes the first call leaves. -/
theorem codes_eq (c : Dev nD) : Run.codes m c = rowCodes (xmat m c) := by
  refine Dat.arrAt_eq_of_cover (Run.dat0 m c) 1 _ (fun t _ => ?_) fun i => ?_
  · show (cfg0.win 1).cut (grid0.coords t) ((Quant.dat (fun c b => V1 m c b) c).after 1 t) = _
    rw [Quant.after0_1, out0_1_eq]
    refine funext fun (y : S128x8192.Idx) => ?_
    show rowCodes _ y = rowCodes (xmat m c) (((cfg0.win 1).blk t).view.emb y)
    refine Eq.trans ?_ (congrArg (rowCodes (xmat m c)) (emb0_1 t y).symm)
    unfold rowCodes rowMax
    simp only [iblk0]
    rfl
  · have hi : (i 0).val < 8192 := (i 0).isLt
    have ht : (i 0).val / 128 < cfg0.N := by rw [N0]; omega
    refine ⟨⟨(i 0).val / 128, ht⟩, flush0_1 _, ?_⟩
    have e := emb0_1 ⟨(i 0).val / 128, ht⟩ (ix2 ⟨(i 0).val % 128, by omega⟩ (i 1))
    refine Eq.subst (motive := fun j => j ∈ _) (e.trans ?_) (View.emb_mem_set _ _)
    refine funext fun a => Fin.ext ?_
    fin_cases a
    · show 128 * ((i 0).val / 128) + (i 0).val % 128 = (i 0).val
      omega
    · rfl

/-- The scales the first call leaves. -/
theorem scales_eq (c : Dev nD) : Run.scales m c = rowScales (xmat m c) := by
  refine Dat.arrAt_eq_of_cover (Run.dat0 m c) 2 _ (fun t _ => ?_) fun i => ?_
  · show (cfg0.win 2).cut (grid0.coords t) ((Quant.dat (fun c b => V1 m c b) c).after 2 t) = _
    rw [Quant.after0_2, out0_2_eq]
    refine funext fun (y : S128x1.Idx) => ?_
    show rowScales _ y = rowScales (xmat m c) (((cfg0.win 2).blk t).view.emb y)
    refine Eq.trans ?_ (congrArg (rowScales (xmat m c)) (emb0_2 t y).symm)
    unfold rowScales rowMax
    simp only [iblk0]
  · have hi : (i 0).val < 8192 := (i 0).isLt
    have ht : (i 0).val / 128 < cfg0.N := by rw [N0]; omega
    refine ⟨⟨(i 0).val / 128, ht⟩, flush0_2 _, ?_⟩
    have e := emb0_2 ⟨(i 0).val / 128, ht⟩ (ix2 ⟨(i 0).val % 128, by omega⟩ (i 1))
    refine Eq.subst (motive := fun j => j ∈ _) (e.trans ?_) (View.emb_mem_set _ _)
    refine funext fun a => Fin.ext ?_
    fin_cases a
    · show 128 * ((i 0).val / 128) + (i 0).val % 128 = (i 0).val
      omega
    · rfl

end Cert.KernelIdeal.Value

end
-- ==== Proof.Val.KGrid.lean ====
/- The second call's grid over the extended reals: 8 row tiles of 1024 by 48 column tiles of 512. What one point leaves in its
   windows, as blocks of the matrices of results. -/
module

public import proofs.«01_k».proof.Proof.Val.KBody
public import proofs.«01_k».proof.Proof.Val.KQuant
public import proofs.«01_k».proof.Proof.KerIdeal.Obl

@[expose] public section

set_option maxRecDepth 16384

noncomputable section

namespace Cert.KernelIdeal.Value

open Cert.KernelIdeal Cert.KernelIdeal.Gen Cert.KernelIdeal.Run Cert.Scale
open Idealize.ShloMosaic Idealize.ShloMosaic.TcCoe Idealize.ShloMosaic.ValueIdx
open Idealize.ShloMosaic.Pipeline (Dat RDat Cfg Window)

/-! ## Points and indexes -/

theorem lt_384 (t : Fin cfg1.N) : t.val < 384 := Nat.lt_of_lt_of_eq t.isLt N_1

theorem coords1 (t : Fin cfg1.N) : (grid1.coords t 1).val = t.val % 48 := by
  have e1 : (grid1.coords t 1).val = t.val / 1 % 48 := Pipeline.Grid.coords_val t 1 (by decide) rfl
  rw [e1, Nat.div_one]

/-- The row of the whole a row of the point's tile is, -/
def rowOf (t : Fin cfg1.N) (r : Fin 1024) : Fin 8192 := ⟨1024 * (t.val / 48) + r.val, by have := lt_384 t; have := r.isLt; omega⟩
/-- and the column. -/
def colOf (t : Fin cfg1.N) (q : Fin 512) : Fin 24576 := ⟨512 * (t.val % 48) + q.val, by have := q.isLt; omega⟩

theorem ix2_ext {M N : ℕ} (x : (⟨2, ![M, N]⟩ : Shape).Idx) (p : Fin M) (q : Fin N) (h0 : (x 0).val = p.val) (h1 : (x 1).val = q.val) : x = ix2 p q := by
  refine funext fun a => Fin.ext ?_
  fin_cases a
  · exact h0
  · exact h1

/-- The blocks' places: windows 0, 1 and 7 move with the row tile, 2 and 3 with the column tile, 4 to 6 with both. -/
theorem index1 (t : Fin cfg1.N) :
    (∀ w : Fin 3, ![win1_0.index t 0, win1_1.index t 0, win1_7.index t 0] w = t.val / 48 ∧ ![win1_0.index t 1, win1_1.index t 1, win1_7.index t 1] w = 0)
    ∧ (∀ w : Fin 2, ![win1_2.index t 0, win1_3.index t 0] w = t.val % 48 ∧ ![win1_2.index t 1, win1_3.index t 1] w = 0)
    ∧ (∀ w : Fin 3, ![win1_4.index t 0, win1_5.index t 0, win1_6.index t 0] w = t.val / 48
        ∧ ![win1_4.index t 1, win1_5.index t 1, win1_6.index t 1] w = t.val % 48) :=
  (by decide +kernel : ∀ t : Fin grid1.N,
    (∀ w : Fin 3, ![win1_0.index t 0, win1_1.index t 0, win1_7.index t 0] w = t.val / 48 ∧ ![win1_0.index t 1, win1_1.index t 1, win1_7.index t 1] w = 0)
    ∧ (∀ w : Fin 2, ![win1_2.index t 0, win1_3.index t 0] w = t.val % 48 ∧ ![win1_2.index t 1, win1_3.index t 1] w = 0)
    ∧ (∀ w : Fin 3, ![win1_4.index t 0, win1_5.index t 0, win1_6.index t 0] w = t.val / 48
        ∧ ![win1_4.index t 1, win1_5.index t 1, win1_6.index t 1] w = t.val % 48)) t

/-- A coordinate of a block's element in the array. -/
theorem place {n k v s y : ℕ} (h : n = k) (e : s * k + y = v) : n * s + y = v := by rw [h, Nat.mul_comm]; exact e

theorem emb1_0 (t : Fin cfg1.N) (y : S1024x8192.Idx) : (((cfg1.win 0).blk t).view.emb y : S8192x8192.Idx) = ix2 (rowOf t (y 0)) (y 1) :=
  ix2_ext _ _ _ ((Window.rect_emb_val win1_0 t y 0).trans (place (s := 1024) ((index1 t).1 0).1 rfl))
    ((Window.rect_emb_val win1_0 t y 1).trans (place (s := 8192) ((index1 t).1 0).2 (by omega)))
theorem emb1_1 (t : Fin cfg1.N) (y : S1024x1.Idx) : (((cfg1.win 1).blk t).view.emb y : S8192x1.Idx) = ix2 (rowOf t (y 0)) (y 1) :=
  ix2_ext _ _ _ ((Window.rect_emb_val win1_1 t y 0).trans (place (s := 1024) ((index1 t).1 1).1 rfl))
    ((Window.rect_emb_val win1_1 t y 1).trans (place (s := 1) ((index1 t).1 1).2 (by omega)))
theorem emb1_2 (t : Fin cfg1.N) (y : S512x8192.Idx) : (((cfg1.win 2).blk t).view.emb y : S24576x8192.Idx) = ix2 (colOf t (y 0)) (y 1) :=
  ix2_ext _ _ _ ((Window.rect_emb_val win1_2 t y 0).trans (place (s := 512) ((index1 t).2.1 0).1 rfl))
    ((Window.rect_emb_val win1_2 t y 1).trans (place (s := 8192) ((index1 t).2.1 0).2 (by omega)))
theorem emb1_3 (t : Fin cfg1.N) (y : S512x256.Idx) : (((cfg1.win 3).blk t).view.emb y : S24576x256.Idx) = ix2 (colOf t (y 0)) (y 1) :=
  ix2_ext _ _ _ ((Window.rect_emb_val win1_3 t y 0).trans (place (s := 512) ((index1 t).2.1 1).1 rfl))
    ((Window.rect_emb_val win1_3 t y 1).trans (place (s := 256) ((index1 t).2.1 1).2 (by omega)))
theorem emb1_4 (t : Fin cfg1.N) (y : S1024x512.Idx) : (((cfg1.win 4).blk t).view.emb y : S8192x24576.Idx) = ix2 (rowOf t (y 0)) (colOf t (y 1)) :=
  ix2_ext _ _ _ ((Window.rect_emb_val win1_4 t y 0).trans (place (s := 1024) ((index1 t).2.2 0).1 rfl))
    ((Window.rect_emb_val win1_4 t y 1).trans (place (s := 512) ((index1 t).2.2 0).2 rfl))
theorem emb1_5 (t : Fin cfg1.N) (y : S1024x512.Idx) : (((cfg1.win 5).blk t).view.emb y : S8192x24576.Idx) = ix2 (rowOf t (y 0)) (colOf t (y 1)) :=
  ix2_ext _ _ _ ((Window.rect_emb_val win1_5 t y 0).trans (place (s := 1024) ((index1 t).2.2 1).1 rfl))
    ((Window.rect_emb_val win1_5 t y 1).trans (place (s := 512) ((index1 t).2.2 1).2 rfl))
theorem emb1_6 (t : Fin cfg1.N) (y : S1024x512.Idx) : (((cfg1.win 6).blk t).view.emb y : S8192x24576.Idx) = ix2 (rowOf t (y 0)) (colOf t (y 1)) :=
  ix2_ext _ _ _ ((Window.rect_emb_val win1_6 t y 0).trans (place (s := 1024) ((index1 t).2.2 2).1 rfl))
    ((Window.rect_emb_val win1_6 t y 1).trans (place (s := 512) ((index1 t).2.2 2).2 rfl))
theorem emb1_7 (t : Fin cfg1.N) (y : S1024x768.Idx) : (((cfg1.win 7).blk t).view.emb y : S8192x768.Idx) = ix2 (rowOf t (y 0)) (y 1) :=
  ix2_ext _ _ _ ((Window.rect_emb_val win1_7 t y 0).trans (place (s := 1024) ((index1 t).1 2).1 rfl))
    ((Window.rect_emb_val win1_7 t y 1).trans (place (s := 768) ((index1 t).1 2).2 (by omega)))

/-! ## The matrices -/

variable (m : (ℓ : Loc nD τ sig) → Buf (Elt Ideal) ℓ)

/-- The weights' codes, -/
def wmat (c : Dev nD) : Mat 24576 8192 := W3 m c main_arg1
/-- their scales' bytes, -/
def smat (c : Dev nD) : Bytes 24576 256 := W3 m c main_arg2
/-- and the residual. -/
def rmat (c : Dev nD) : Mat 8192 24576 := W3 m c main_v2

/-- The product. -/
def ymat (c : Dev nD) : Mat 8192 24576 :=
  linear (rowCodes (xmat m c)) (rowScales (xmat m c)) (weights (by decide : 8192 = 32 * 256) (wmat m c) (smat m c)) (rmat m c)

theorem iblk1_0 (c : Dev nD) (t : Fin cfg1.N) (r : Fin 1024) (k : Fin 8192) : iblk m c 0 t (ix2 r k) = rowCodes (xmat m c) (ix2 (rowOf t r) k) :=
  (congrArg (W3 m c main_v1_0) (emb1_0 t (ix2 r k))).trans (congrFun ((W3_codes m c).trans (codes_eq m c)) _)
theorem iblk1_1 (c : Dev nD) (t : Fin cfg1.N) (r : Fin 1024) : iblk m c 1 t (ix2 r (0 : Fin 1)) = rowScales (xmat m c) (ix2 (rowOf t r) 0) :=
  (congrArg (W3 m c main_v1_1) (emb1_1 t (ix2 r 0))).trans (congrFun ((W3_scales m c).trans (scales_eq m c)) _)
theorem iblk1_2 (c : Dev nD) (t : Fin cfg1.N) (q : Fin 512) (k : Fin 8192) : iblk m c 2 t (ix2 q k) = wmat m c (ix2 (colOf t q) k) :=
  congrArg (W3 m c main_arg1) (emb1_2 t (ix2 q k))
theorem iblk1_3 (c : Dev nD) (t : Fin cfg1.N) (q : Fin 512) (k : Fin 256) : iblk m c 3 t (ix2 q k) = smat m c (ix2 (colOf t q) k) :=
  congrArg (W3 m c main_arg2) (emb1_3 t (ix2 q k))
theorem iblk1_4 (c : Dev nD) (t : Fin cfg1.N) (r : Fin 1024) (q : Fin 512) : iblk m c 4 t (ix2 r q) = rmat m c (ix2 (rowOf t r) (colOf t q)) :=
  congrArg (W3 m c main_v2) (emb1_4 t (ix2 r q))

/-- The tile of a point is its block of the product, if the kept codes are the row tile's, -/
theorem tile_at (c : Dev nD) (t : Fin cfg1.N) (A : Mat 1024 8192) (hA : ∀ r k, A (ix2 r k) = rowCodes (xmat m c) (ix2 (rowOf t r) k)) (r : Fin 1024) (q : Fin 512) :
    tile A (iblk m c 1 t) (iblk m c 2 t) (iblk m c 3 t) (iblk m c 4 t) (ix2 r q) = ymat m c (ix2 (rowOf t r) (colOf t q)) := by
  have hs : ∀ k : Fin 8192, A (ix2 r k) * weights (n := 512) (by decide : 8192 = 32 * 256) (iblk m c 2 t) (iblk m c 3 t) (ix2 q k)
      = rowCodes (xmat m c) (ix2 (rowOf t r) k) * weights (by decide : 8192 = 32 * 256) (wmat m c) (smat m c) (ix2 (colOf t q) k) := by
    intro k
    rw [hA]
    refine congrArg (rowCodes (xmat m c) (ix2 (rowOf t r) k) * ·) ?_
    refine congrArg₂ (fun a b => a * Ideal.ofBits .f32 (IntOp.shli .vector (BitVec.setWidth 32 b) 23#32)) (iblk1_2 m c t q k) ?_
    exact iblk1_3 m c t q ⟨k.val / 32, by have := k.isLt; omega⟩
  show (∑ k : Fin 8192, A (ix2 r k) * weights (n := 512) (by decide : 8192 = 32 * 256) (iblk m c 2 t) (iblk m c 3 t) (ix2 q k)) * iblk m c 1 t (ix2 r (0 : Fin 1))
      + iblk m c 4 t (ix2 r q) = _
  rw [Finset.sum_congr rfl fun k _ => hs k, iblk1_1, iblk1_4]
  rfl

/-- its greatest values are the product's, -/
theorem grp_at (c : Dev nD) (t : Fin cfg1.N) (y : Mat 1024 512) (hy : ∀ r q, y (ix2 r q) = ymat m c (ix2 (rowOf t r) (colOf t q))) (r : Fin 1024) (q : Fin 512) :
    grpMax (by decide : 32 ∣ 512) y r q = grpMax (by decide : 32 ∣ 24576) (ymat m c) (rowOf t r) (colOf t q) := by
  unfold grpMax
  refine congrArg amax (funext fun i => (hy r _).trans ?_)
  have hq := q.isLt
  have hi := i.isLt
  refine congrArg (fun k => ymat m c (ix2 (rowOf t r) k)) (Fin.ext ?_)
  show 512 * (t.val % 48) + (32 * (q.val / 32) + i.val) = 32 * ((512 * (t.val % 48) + q.val) / 32) + i.val
  omega

/-- its codes are the product's, -/
theorem codes_at (c : Dev nD) (t : Fin cfg1.N) (y : Mat 1024 512) (hy : ∀ r q, y (ix2 r q) = ymat m c (ix2 (rowOf t r) (colOf t q))) (r : Fin 1024) (q : Fin 512) :
    grpCodes (by decide : 32 ∣ 512) y (ix2 r q) = grpCodes (by decide : 32 ∣ 24576) (ymat m c) (ix2 (rowOf t r) (colOf t q)) :=
  congrArg₂ codeK (hy r q) (grp_at m c t y hy r q)

/-- and its bytes are sixteen columns of the product's. -/
theorem bytes_at (c : Dev nD) (t : Fin cfg1.N) (y : Mat 1024 512) (hy : ∀ r q, y (ix2 r q) = ymat m c (ix2 (rowOf t r) (colOf t q))) (r : Fin 1024) (q : Fin 768)
    (h : q.val / 16 = t.val % 48) :
    grpBytes (q := 16) (by decide : 512 = 32 * 16) y (ix2 r ⟨q.val % 16, by omega⟩) = grpBytes (q := 768) (by decide : 24576 = 32 * 768) (ymat m c) (ix2 (rowOf t r) q) := by
  refine congrArg (fun e => (IntOp.subi (expK e) 8#32).setWidth 8) ((grp_at m c t y hy r ⟨32 * (q.val % 16), by omega⟩).trans ?_)
  refine congrArg (grpMax (by decide : 32 ∣ 24576) (ymat m c) (rowOf t r)) (Fin.ext ?_)
  show 512 * (t.val % 48) + 32 * (q.val % 16) = 32 * q.val
  omega

end Cert.KernelIdeal.Value

end
-- ==== Proof.Val.KStep.lean ====
/- What one point of the second call keeps and leaves, over the extended reals. -/
module

public import proofs.«01_k».proof.Proof.Val.KGrid

@[expose] public section

set_option maxRecDepth 16384

noncomputable section

namespace Cert.KernelIdeal.Value

open Cert.KernelIdeal Cert.KernelIdeal.Gen Cert.KernelIdeal.Run Cert.Scale
open Idealize.ShloMosaic Idealize.ShloMosaic.TcCoe Idealize.ShloMosaic.ValueIdx
open Idealize.ShloMosaic.Pipeline (Dat RDat Cfg Window)

variable (m : (ℓ : Loc nD τ sig) → Buf (Elt Ideal) ℓ)

/-- Before point `n`, unless a new row tile starts there, the first scratch holds the row tile's codes. -/
def Kept (c : Dev nD) (n : ℕ) (xb : Vec Ideal S1024x8192 .bf16) : Prop :=
  n % 48 ≠ 0 → ∀ (r : Fin 1024) (k : Fin 8192) (R : Fin 8192), R.val = 1024 * (n / 48) + r.val → xb (ix2 r k) = rowCodes (xmat m c) (ix2 R k)

/-- What each result's window is left holding at point `t`: its block of the product; its block of the codes; and, of the bytes, the
    row tile's columns so far. -/
def Left (c : Dev nD) (w : Fin cfg1.W) (t : Fin cfg1.N) (X : (cfg1.win w).block.Idx → Elt Ideal (cfg1.win w).elt) : Prop :=
  match w, X with
  | ⟨0, _⟩, _ => True
  | ⟨1, _⟩, _ => True
  | ⟨2, _⟩, _ => True
  | ⟨3, _⟩, _ => True
  | ⟨4, _⟩, _ => True
  | ⟨5, _⟩, X => ∀ (r : Fin 1024) (q : Fin 512), (X : Mat 1024 512) (ix2 r q) = ymat m c (ix2 (rowOf t r) (colOf t q))
  | ⟨6, _⟩, X => ∀ (r : Fin 1024) (q : Fin 512), (X : Mat 1024 512) (ix2 r q) = grpCodes (by decide : 32 ∣ 24576) (ymat m c) (ix2 (rowOf t r) (colOf t q))
  | ⟨7, _⟩, X => ∀ (r : Fin 1024) (q : Fin 768), q.val / 16 ≤ t.val % 48 →
      (X : Bytes 1024 768) (ix2 r q) = grpBytes (q := 768) (by decide : 24576 = 32 * 768) (ymat m c) (ix2 (rowOf t r) q)

/-- The body's codes are the row tile's, read at its start and kept after it. -/
theorem keep_at (c : Dev nD) (t : Fin cfg1.N) (xb : Vec Ideal S1024x8192 .bf16) (h : Kept m c t.val xb) (r : Fin 1024) (k : Fin 8192) :
    Body.keep (grid1.coords t) (iblk m c 0 t) xb (ix2 r k) = rowCodes (xmat m c) (ix2 (rowOf t r) k) := by
  unfold Body.keep
  split
  · refine Eq.trans ?_ (iblk1_0 m c t r k)
    unfold k1_pay2
    rw [shapeCast_self, shapeCast_self]
    rfl
  · next hc => exact h (fun h0 => hc ((Body.cond_iff t).2 h0)) r k _ rfl

/-- One point of the second call. -/
theorem step (c : Dev nD) (t : Fin cfg1.N) (d9 : Vec Ideal S1024x768 .i8) (xb : Vec Ideal S1024x8192 .bf16) (h : Kept m c t.val xb)
    (hf : (rdat1 m (Obl.Phi (Kept m)) (Left m) c).Finds 7 t d9) : Obl.Step m (Kept m) (Left m) c t d9 xb := by
  have hA := keep_at m c t xb h
  have hy := tile_at m c t _ hA
  refine ⟨fun hn r k R hR => ?_, fun r q => ?_, fun r q => ?_, fun r q hq => ?_⟩
  · refine (hA r k).trans (congrArg (fun p => rowCodes (xmat m c) (ix2 p k)) (Fin.ext ?_))
    show 1024 * (t.val / 48) + r.val = R.val
    omega
  · exact (congrFun (o7_eq ..) (ix2 r q)).trans (hy r q)
  · exact (congrFun (o8_eq ..) (ix2 r q)).trans (codes_at m c t _ hy r q)
  · refine (o9_eq ..).trans ?_
    rw [coords1 t]
    split
    · next e => exact bytes_at m c t _ hy r q e
    · next e =>
      have h0 : t.val ≠ 0 := fun h0 => e (by rw [h0] at hq ⊢; omega)
      have hp := ((rdat1 m (Obl.Phi (Kept m)) (Left m) c).finds_of_pos (w := 7) rfl h0 d9).1 hf
      rcases hp with hp | hp
      · have := (flush1_7 _).1 hp
        have hh : (t.val - 1) % 48 = 47 := this
        omega
      · have hl : Left m c 7 ⟨t.val - 1, _⟩ d9 := Dat.toRRel_leaves _ rfl hp
        refine (hl r q (by show q.val / 16 ≤ (t.val - 1) % 48; omega)).trans (congrArg (fun p => grpBytes (q := 768) (by decide : 24576 = 32 * 768) (ymat m c) (ix2 p q)) (Fin.ext ?_))
        show 1024 * ((t.val - 1) / 48) + r.val = 1024 * (t.val / 48) + r.val
        omega

end Cert.KernelIdeal.Value

end
-- ==== Proof.Val.KFinal.lean ====
/- The kernel's results over the extended reals, as matrices of its arguments. -/
module

public import proofs.«01_k».proof.Proof.Val.KStep
public import proofs.«01_k».proof.Proof.KerIdeal.Frame
public import Idealize.ShloMosaic.Lib.Pipeline.ArrRel

@[expose] public section

set_option maxRecDepth 16384

noncomputable section

namespace Cert.KernelIdeal.Value

open Cert.KernelIdeal Cert.KernelIdeal.Gen Cert.KernelIdeal.Run Cert.Scale
open Idealize.ShloMosaic Idealize.ShloMosaic.TcCoe Idealize.ShloMosaic.ValueIdx
open Idealize.ShloMosaic.Pipeline (Dat RDat Cfg Window)

variable (m : (ℓ : Loc nD τ sig) → Buf (Elt Ideal) ℓ)

/-- A block index by its coordinates. -/
theorem ix2_of {M N : ℕ} (y : (⟨2, ![M, N]⟩ : Shape).Idx) : ∃ (r : Fin M) (q : Fin N), y = ix2 r q := ⟨y 0, y 1, eq_ix2 y⟩

/-- Every element of each result of the second call is in a block flushed at some point. -/
theorem covers5 : (cfg1.win 5).Covers := by decide +kernel
theorem covers6 : (cfg1.win 6).Covers := by decide +kernel
theorem covers7 : (cfg1.win 7).Covers := by decide +kernel

variable (c : Dev nD) (after : (w : Fin cfg1.W) → Fin cfg1.N → (cfg1.win w).block.Idx → Elt Ideal (cfg1.win w).elt)
  (hL : ∀ (w : Fin cfg1.W) (u : Fin cfg1.N), u.val < cfg1.N → (cfg1.win w).flush u = true → (rdat1 m (Obl.Phi (Kept m)) (Left m) c).Leaves w u (after w u))
include hL

/-- The array of the products, of blocks each left as `Left` says, -/
theorem arr5 : ((rdat1 m (Obl.Phi (Kept m)) (Left m) c).withAfter after).arrAt 5 cfg1.N = ymat m c := by
  refine Dat.arrAt_eq_of_covers _ 5 _ covers5 fun t hf y => ?_
  have h : Left m c 5 t (after 5 t) := Dat.toRRel_leaves _ rfl (hL 5 t t.isLt hf)
  obtain ⟨r, q, rfl⟩ := ix2_of (M := 1024) (N := 512) y
  exact (h r q).trans (congrArg (ymat m c) (emb1_5 t (ix2 r q)).symm)

/-- that of their codes, -/
theorem arr6 : ((rdat1 m (Obl.Phi (Kept m)) (Left m) c).withAfter after).arrAt 6 cfg1.N = grpCodes (by decide : 32 ∣ 24576) (ymat m c) := by
  refine Dat.arrAt_eq_of_covers _ 6 _ covers6 fun t hf y => ?_
  have h : Left m c 6 t (after 6 t) := Dat.toRRel_leaves _ rfl (hL 6 t t.isLt hf)
  obtain ⟨r, q, rfl⟩ := ix2_of (M := 1024) (N := 512) y
  exact (h r q).trans (congrArg (grpCodes (by decide : 32 ∣ 24576) (ymat m c)) (emb1_6 t (ix2 r q)).symm)

/-- and that of their groups' bytes. -/
theorem arr7 : ((rdat1 m (Obl.Phi (Kept m)) (Left m) c).withAfter after).arrAt 7 cfg1.N
    = grpBytes (q := 768) (by decide : 24576 = 32 * 768) (ymat m c) := by
  refine Dat.arrAt_eq_of_covers _ 7 _ covers7 fun t hf y => ?_
  have h : Left m c 7 t (after 7 t) := Dat.toRRel_leaves _ rfl (hL 7 t t.isLt hf)
  have ht : t.val % 48 = 47 := (flush1_7 t).1 hf
  obtain ⟨r, q, rfl⟩ := ix2_of (M := 1024) (N := 768) y
  exact (h r q (by have := q.isLt; omega)).trans (congrArg (grpBytes (q := 768) (by decide : 24576 = 32 * 768) (ymat m c)) (emb1_7 t (ix2 r q)).symm)

omit hL

/-- The kernel terminates; its five results are the product, the operand's codes and scales, the product's codes and its groups' bytes; its
    arguments are kept and every semaphore ends at zero. -/
theorem run (ρ : Dev nD → PrngReg) : θ_run (defs (F := Ideal)) (onTc (τ := τ) (main (F := Ideal))) ⟨m, fun _ => 0, ρ⟩ (fun r =>
    (∀ c : Dev nD,
      (r.2.mem ((c : Thread nD τ).loc main_v3_0) : Mat 8192 24576) = ymat m c
      ∧ (r.2.mem ((c : Thread nD τ).loc main_v1_0) : Mat 8192 8192) = rowCodes (xmat m c)
      ∧ (r.2.mem ((c : Thread nD τ).loc main_v1_1) : Mat 8192 1) = rowScales (xmat m c)
      ∧ (r.2.mem ((c : Thread nD τ).loc main_v3_1) : Mat 8192 24576) = grpCodes (by decide : 32 ∣ 24576) (ymat m c)
      ∧ (r.2.mem ((c : Thread nD τ).loc main_v3_2) : Bytes 8192 768) = grpBytes (q := 768) (by decide : 24576 = 32 * 768) (ymat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run _ _ _).mono (fun r h => ⟨fun c => ?_, h.2⟩)
    (Obl.run m (Kept m) (Left m) ρ (fun c xb h => absurd rfl h) fun c t d9 xb h hf => step m c t d9 xb h hf)
  have hq := h.1 c
  have ha := Obl.QY_args m (Kept m) (Left m) hq
  obtain ⟨after, hL, hA⟩ := RDat.ArrAt.exists_exact_all hq.1
  have h0 := hq.1 0
  have h1 := hq.1 1
  rw [RDat.ArrAt_in _ 0 rfl] at h0
  rw [RDat.ArrAt_in _ 1 rfl] at h1
  refine ⟨(hA 5).trans (arr5 m c after hL), ?_, ?_, (hA 6).trans (arr6 m c after hL), (hA 7).trans (arr7 m c after hL), ?_⟩
  · exact h0.trans ((W3_codes m c).trans (codes_eq m c))
  · exact h1.trans ((W3_scales m c).trans (scales_eq m c))
  · exact ha

end Cert.KernelIdeal.Value

end
-- ==== Proof.Val.RPay.lean ====
/- The reference's values over the extended reals, as functions of its four operands. -/
module

public import proofs.«01_k».proof.Proof.Gen.ReferenceIdeal.Frame
public import proofs.«01_k».proof.Proof.Val.Linear
public import Idealize.ShloMosaic.Lib.Pipeline.ValueKit.Basic

@[expose] public section

set_option maxRecDepth 16384

noncomputable section

namespace Cert.Scale

open Idealize.ShloMosaic Idealize.ShloMosaic.ValueIdx

section
variable {s : Shape}

/-- The reference's exponent at every index, -/
def expRV (a : FVec Ideal s .f32) : IVec s 32 := fun i => expR (a i)

theorem expRV_fold (a : FVec Ideal s .f32) :
    fptosi 32 (select (cmpf .olt (divf a (broadcast s (Scalar.ofBits .f32 0x43E00000#32))) (broadcast s (Scalar.ofBits .f32 0x00800000#32)))
      (broadcast s (Scalar.ofBits .f32 0x00000000#32))
      (minimumf (addf (floor (divf (log (divf a (broadcast s (Scalar.ofBits .f32 0x43E00000#32)))) (log (broadcast s (Scalar.ofBits .f32 0x40000000#32)))))
        (broadcast s (Scalar.ofBits .f32 0x3F800000#32))) (broadcast s (Scalar.ofBits .f32 0x42F00000#32)))) = expRV a := funext fun _ => rfl

/-- and its power of two. -/
def powRV (e : IVec s 32) : FVec Ideal s .f32 := fun i => powR (e i)

theorem powRV_fold (e : IVec s 32) :
    select (cmpi .slt e (broadcast s 4294967170#32)) (broadcast s (Scalar.ofBits .f32 0x00000000#32))
      (select (cmpi .sgt e (broadcast s 127#32)) (broadcast s (Scalar.ofBits .f32 0x7F800000#32)) (exp2 (sitofp .f32 e))) = powRV e := funext fun _ => rfl

end

end Cert.Scale

namespace Cert.ReferenceIdeal.Value

open Cert.ReferenceIdeal Cert.ReferenceIdeal.Gen Cert.Scale
open Idealize.ShloMosaic Idealize.ShloMosaic.TcCoe Idealize.ShloMosaic.ValueIdx

/-! ## The operand -/

theorem pay1 (x : Vec Ideal S8192x8192 .bf16) : k0_pay1 x = x := by
  unfold k0_pay1; rw [shapeCast_self]; rfl

theorem rowMax_pay (x : FVec Ideal S8192x8192 .f32) (i : S8192x1.Idx) :
    shapeCast S8192x1 (multiReduction .maximumf [1] S8192 (absf x) 0xFF800000#32 reduces_S8192x8192_S8192 (.inl rfl) rfl) shapeCasts_S8192_S8192x1 i
      = rowMax x (i 0) := by
  obtain ⟨r, q, rfl⟩ : ∃ (r : Fin 8192) (q : Fin 1), i = ix2 r q := ⟨_, _, eq_ix2 i⟩
  refine (shapeCast_apply _ _ _ (ix1 r) ?_).trans ?_
  · rw [Shape.rowMajor_val_one, Shape.rowMajor_val_two]
    have := q.isLt
    show r.val = r.val * 1 + q.val
    omega
  · refine (Ideal.multiReduction_maximumf_single _ _ _ _ _ _).trans ?_
    have hl : ∀ k : Fin 8192, reduces_S8192x8192_S8192.lift (ix1 r) k = (ix2 r k : S8192x8192.Idx) := fun k =>
      funext fun a => Fin.ext (by fin_cases a <;> rfl)
    exact congrArg (fun f : Fin 8192 → EReal => Finset.fold max (Ideal.ofBits .f32 0xFF800000#32) f Finset.univ)
      (funext fun k => congrArg (fun i => max (x i) (-(x i))) (hl k))

theorem pay2 (x : Vec Ideal S8192x8192 .bf16) : k0_pay2 x = fun i => expR (rowMax x (i 0)) := by
  unfold k0_pay2
  rw [pay1]
  dsimp only
  rw [expRV_fold]
  exact funext fun i => congrArg expR (rowMax_pay x i)

/-- The scales of the rows. -/
theorem pay3 (x : Vec Ideal S8192x8192 .bf16) : k0_pay3 x = rowScalesR x := by
  unfold k0_pay3
  rw [pay2]
  dsimp only
  rw [powRV_fold]
  rfl

theorem pay4 (x : Vec Ideal S8192x8192 .bf16) : k0_pay4 x = fun i => IntOp.subi 0#32 (expR (rowMax x (i 0))) := by
  unfold k0_pay4
  rw [pay2]
  rfl

/-- The codes of the rows. -/
theorem pay7 (x : Vec Ideal S8192x8192 .bf16) :
    k0_pay7 (k0_pay1 x) (k0_pay5 x) (k0_pay6 x) (Scalar.ofBits .f32 0x00000000#32) = rowCodesR x := by
  unfold k0_pay7 k0_pay5 k0_pay6
  rw [pay1, pay4]
  dsimp only
  rw [powRV_fold, clipV_fold]
  funext i
  obtain ⟨r, k, rfl⟩ : ∃ (r : Fin 8192) (k : Fin 8192), i = ix2 r k := ⟨_, _, eq_ix2 i⟩
  exact congrArg (clip (x (ix2 r k))) (broadcastTo_apply _ _ _ (ix2 r 0) (by intro a; fin_cases a <;> rfl))

/-! ## The product -/

/-- The weights, each code times its group's power of two. -/
theorem weights_pay (w : Vec Ideal S24576x8192 .fp8e4m3) (s : Vec Ideal S24576x256 .i8) :
    shapeCast S24576x8192 (mulf (shapeCast S24576x256x32 (extf .bf16 w bitsLt_fp8e4m3_bf16) shapeCasts_S24576x8192_S24576x256x32)
        (broadcastTo S24576x256x32 (shapeCast S24576x256x1 (truncf .bf16 (powRV (subi (extui 32 s natLt_8_32) (broadcast S24576x256 127#32))) bitsLt_bf16_f32)
          shapeCasts_S24576x256_S24576x256x1) broadcasts_S24576x256x1_S24576x256x32)) shapeCasts_S24576x256x32_S24576x8192
      = weightsR (by decide : 8192 = 32 * 256) w s := by
  funext i
  obtain ⟨n, k, rfl⟩ : ∃ (n : Fin 24576) (k : Fin 8192), i = ix2 n k := ⟨_, _, eq_ix2 i⟩
  have hk := k.isLt
  refine (shapeCast_apply _ _ _ (ix3 n (⟨k.val / 32, by omega⟩ : Fin 256) (⟨k.val % 32, by omega⟩ : Fin 32)) ?_).trans ?_
  · rw [Shape.rowMajor_val_three, Shape.rowMajor_val_two]
    show (n.val * 256 + k.val / 32) * 32 + k.val % 32 = n.val * 8192 + k.val
    omega
  refine congrArg₂ (fun a b : EReal => a * b) ?_ ?_
  · refine shapeCast_apply _ _ _ (ix2 n k) ?_
    rw [Shape.rowMajor_val_three, Shape.rowMajor_val_two]
    show n.val * 8192 + k.val = (n.val * 256 + k.val / 32) * 32 + k.val % 32
    omega
  · refine (broadcastTo_apply _ _ _ (ix3 n (⟨k.val / 32, by omega⟩ : Fin 256) (0 : Fin 1)) (by intro a; fin_cases a <;> rfl)).trans ?_
    refine (shapeCast_apply _ _ _ (ix2 n (⟨k.val / 32, by omega⟩ : Fin 256)) ?_).trans rfl
    rw [Shape.rowMajor_val_three, Shape.rowMajor_val_two]
    show n.val * 256 + k.val / 32 = (n.val * 256 + k.val / 32) * 1 + 0
    omega

/-- The product, scaled by the rows' scales, plus the residual. -/
theorem pay8 (x : Vec Ideal S8192x8192 .bf16) (w : Vec Ideal S24576x8192 .fp8e4m3) (s : Vec Ideal S24576x256 .i8) (r : Vec Ideal S8192x24576 .bf16) :
    k0_pay8 (k0_pay1 x) (k0_pay3 x) (k0_pay5 x) (k0_pay6 x) (Scalar.ofBits .f32 0x00000000#32) s w r
      = linear (rowCodesR x) (rowScalesR x) (weightsR (by decide : 8192 = 32 * 256) w s) r := by
  unfold k0_pay8
  rw [pay7, pay3]
  dsimp only
  rw [powRV_fold, shapeCast_self, weights_pay]
  funext i
  obtain ⟨p, q, rfl⟩ : ∃ (p : Fin 8192) (q : Fin 24576), i = ix2 p q := ⟨_, _, eq_ix2 i⟩
  exact linear_apply dot_S8192x8192_S24576x8192_S8192x24576_1_1_0_0_n_n rfl (rowCodesR x) (weightsR (by decide : 8192 = 32 * 256) w s) (rowScalesR x) r
    broadcasts_S8192x1_S8192x24576 (by decide) p q

/-! ## The product's groups -/

/-- The product by groups of 32, -/
theorem split_apply (y : FVec Ideal S8192x24576 .f32) (r : Fin 8192) (g : Fin 768) (k : Fin 32) :
    shapeCast S8192x768x32 y shapeCasts_S8192x24576_S8192x768x32 (ix3 r g k) = y (ix2 r ⟨32 * g.val + k.val, by have := g.isLt; have := k.isLt; omega⟩) := by
  refine shapeCast_apply _ _ _ _ ?_
  rw [Shape.rowMajor_val_three, Shape.rowMajor_val_two]
  show r.val * 24576 + (32 * g.val + k.val) = (r.val * 768 + g.val) * 32 + k.val
  omega

/-- and the greatest absolute value of each. -/
theorem grpMax_pay (y : FVec Ideal S8192x24576 .f32) (r : Fin 8192) (g : Fin 768) (q : Fin 24576) (hq : q.val / 32 = g.val) :
    shapeCast S8192x768x1 (multiReduction .maximumf [2] S8192x768 (absf (shapeCast S8192x768x32 y shapeCasts_S8192x24576_S8192x768x32)) 0xFF800000#32
      reduces_S8192x768x32_S8192x768 (.inl rfl) rfl) shapeCasts_S8192x768_S8192x768x1 (ix3 r g 0) = grpMax (by decide : 32 ∣ 24576) y r q := by
  refine (shapeCast_apply _ _ _ (ix2 r g) ?_).trans ?_
  · rw [Shape.rowMajor_val_three, Shape.rowMajor_val_two]
    show r.val * 768 + g.val = (r.val * 768 + g.val) * 1 + 0
    omega
  · refine (Ideal.multiReduction_maximumf_single _ _ _ _ _ _).trans ?_
    have hl : ∀ k : Fin 32, reduces_S8192x768x32_S8192x768.lift (ix2 r g) k = (ix3 r g k : S8192x768x32.Idx) := fun k =>
      funext fun a => Fin.ext (by fin_cases a <;> rfl)
    unfold grpMax amax
    refine congrArg (fun f : Fin 32 → EReal => Finset.fold max (Ideal.ofBits .f32 0xFF800000#32) f Finset.univ)
      (funext (f := fun k => absf (shapeCast S8192x768x32 y shapeCasts_S8192x24576_S8192x768x32) (reduces_S8192x768x32_S8192x768.lift (ix2 r g) k)) fun k => ?_)
    refine congrArg (fun e : EReal => max e (-e)) ((congrArg (shapeCast S8192x768x32 y shapeCasts_S8192x24576_S8192x768x32) (hl k)).trans ((split_apply y r g k).trans ?_))
    exact congrArg (fun q => y (ix2 r q)) (Fin.ext (by show 32 * g.val + k.val = 32 * (q.val / 32) + k.val; rw [hq]))

theorem pay11 (a : FVec Ideal S8192x768x1 .f32) : k0_pay11 a = expRV a := by
  unfold k0_pay11; dsimp only; rw [expRV_fold]

/-- The codes of a matrix's groups, -/
theorem pay12 (y : FVec Ideal S8192x24576 .f32) (a : FVec Ideal S8192x768x1 .f32)
    (ha : ∀ (r : Fin 8192) (g : Fin 768) (q : Fin 24576), q.val / 32 = g.val → a (ix3 r g 0) = grpMax (by decide : 32 ∣ 24576) y r q) :
    k0_pay12 (shapeCast S8192x768x32 y shapeCasts_S8192x24576_S8192x768x32) a = grpCodesR (by decide : 32 ∣ 24576) y := by
  unfold k0_pay12
  rw [pay11]
  dsimp only
  rw [powRV_fold, clipV_fold]
  funext i
  obtain ⟨r, q, rfl⟩ : ∃ (r : Fin 8192) (q : Fin 24576), i = ix2 r q := ⟨_, _, eq_ix2 i⟩
  have hq := q.isLt
  refine (shapeCast_apply _ _ _ (ix3 r (⟨q.val / 32, by omega⟩ : Fin 768) (⟨q.val % 32, by omega⟩ : Fin 32)) ?_).trans ?_
  · rw [Shape.rowMajor_val_three, Shape.rowMajor_val_two]
    show (r.val * 768 + q.val / 32) * 32 + q.val % 32 = r.val * 24576 + q.val
    omega
  refine congrArg₂ clip ?_ ?_
  · refine (split_apply y r _ _).trans (congrArg (fun q => y (ix2 r q)) (Fin.ext ?_))
    show 32 * (q.val / 32) + q.val % 32 = q.val
    omega
  · refine (broadcastTo_apply _ _ _ (ix3 r (⟨q.val / 32, by omega⟩ : Fin 768) (0 : Fin 1)) (by intro a; fin_cases a <;> rfl)).trans ?_
    exact congrArg (fun e => powR (IntOp.subi 0#32 (expR e))) (ha r _ q rfl)

/-- and their bytes. -/
theorem pay13 (y : FVec Ideal S8192x24576 .f32) (a : FVec Ideal S8192x768x1 .f32)
    (ha : ∀ (r : Fin 8192) (g : Fin 768) (q : Fin 24576), q.val / 32 = g.val → a (ix3 r g 0) = grpMax (by decide : 32 ∣ 24576) y r q) :
    k0_pay13 a = grpBytesR (q := 768) (by decide : 24576 = 32 * 768) y := by
  unfold k0_pay13
  rw [pay11]
  dsimp only
  funext i
  obtain ⟨r, g, rfl⟩ : ∃ (r : Fin 8192) (g : Fin 768), i = ix2 r g := ⟨_, _, eq_ix2 i⟩
  have hg := g.isLt
  refine (shapeCast_apply _ _ _ (ix3 r g (0 : Fin 1)) ?_).trans ?_
  · rw [Shape.rowMajor_val_three, Shape.rowMajor_val_two]
    show (r.val * 768 + g.val) * 1 + 0 = r.val * 768 + g.val
    omega
  · exact congrArg (fun e => (IntOp.addi (expR e) 127#32).setWidth 8) (ha r g ⟨32 * g.val, by omega⟩ (by show 32 * g.val / 32 = g.val; omega))

end Cert.ReferenceIdeal.Value

end
-- ==== Proof.Val.RRun.lean ====
/- The reference's five results over the extended reals, as functions of its arguments. -/
module

public import proofs.«01_k».proof.Proof.Val.RPay
public import Idealize.ShloMosaic.Lib.Pipeline.ValueKit.Geometry

@[expose] public section

set_option maxRecDepth 16384

noncomputable section

namespace Cert.ReferenceIdeal.Value

open Cert.ReferenceIdeal Cert.ReferenceIdeal.Gen Cert.Scale
open Idealize.ShloMosaic Idealize.ShloMosaic.TcCoe Idealize.ShloMosaic.ValueIdx
open Idealize.SL.Sem
open Idealize.ShloMosaic.Pipeline (Dat RDat Cfg Window)

/-! ## The body's results -/

section
variable (x : Vec Ideal S8192x8192 .bf16) (w : Vec Ideal S24576x8192 .fp8e4m3) (s : Vec Ideal S24576x256 .i8) (r : Vec Ideal S8192x24576 .bf16)

/-- The product of the four operands. -/
def prod : Mat 8192 24576 := linear (rowCodesR x) (rowScalesR x) (weightsR (by decide : 8192 = 32 * 256) w s) r

theorem pay14 : k0_pay14 x w s r = k0_pay1 x := by unfold k0_pay14; rw [View.ld_unit_lit _ _ (by decide)]
theorem pay15 : k0_pay15 x w s r = k0_pay3 x := by unfold k0_pay15; rw [View.ld_unit_lit _ _ (by decide)]
theorem pay16 : k0_pay16 x w s r = k0_pay5 x := by unfold k0_pay16; rw [View.ld_unit_lit _ _ (by decide)]
theorem pay17 : k0_pay17 x w s r = k0_pay6 x := by unfold k0_pay17; rw [View.ld_unit_lit _ _ (by decide)]

theorem pay9 : k0_pay9 (k0_pay14 x w s r) (k0_pay15 x w s r) (k0_pay16 x w s r) (k0_pay17 x w s r) (Scalar.ofBits .f32 0x00000000#32) (View.ld s r0_1) (View.ld w r0_2) (View.ld r r0_3)
    = shapeCast S8192x768x32 (prod x w s r : FVec Ideal S8192x24576 .f32) shapeCasts_S8192x24576_S8192x768x32 := by
  unfold k0_pay9
  rw [pay14, pay15, pay16, pay17, View.ld_unit_lit _ _ (by decide), View.ld_unit_lit _ _ (by decide), View.ld_unit_lit _ _ (by decide), pay8]
  rfl

theorem pay18 (p : Fin 8192) (g : Fin 768) (q : Fin 24576) (hq : q.val / 32 = g.val) :
    k0_pay18 x w s r (ix3 p g 0) = grpMax (by decide : 32 ∣ 24576) (prod x w s r) p q := by
  unfold k0_pay18 k0_pay10
  rw [pay9]
  exact grpMax_pay _ p g q hq

theorem out4 : out0_4 x w s r = prod x w s r := by
  unfold out0_4
  rw [View.canon_cons_unit_lit _ _ _ (by decide), pay14, pay15, pay16, pay17, View.ld_unit_lit _ _ (by decide), View.ld_unit_lit _ _ (by decide),
    View.ld_unit_lit _ _ (by decide), pay8]
  rfl
theorem out5 : out0_5 x w s r = rowCodesR x := by
  unfold out0_5
  rw [View.canon_cons_unit_lit _ _ _ (by decide), pay14, pay16, pay17, pay7]
theorem out6 : out0_6 x w s r = rowScalesR x := by
  unfold out0_6
  rw [View.canon_cons_unit_lit _ _ _ (by decide), pay15, pay3]
theorem out7 : out0_7 x w s r = grpCodesR (by decide : 32 ∣ 24576) (prod x w s r) := by
  unfold out0_7
  rw [View.canon_cons_unit_lit _ _ _ (by decide), pay9]
  exact pay12 _ _ (pay18 x w s r)
theorem out8 : out0_8 x w s r = grpBytesR (q := 768) (by decide : 24576 = 32 * 768) (prod x w s r) := by
  unfold out0_8
  rw [View.canon_cons_unit_lit _ _ _ (by decide)]
  exact pay13 _ _ (pay18 x w s r)

end

/-! ## The run -/

variable (m : (ℓ : Loc nD τ sig) → Buf (Elt Ideal) ℓ)

/-- Each window is its whole array. -/
theorem index_zero (t : Fin cfg0.N) (w : Fin cfg0.W) (a : Fin (cfg0.win w).shape.rank) : (cfg0.win w).index t a = 0 :=
  (by decide +kernel : ∀ (t : Fin grid0.N) (w : Fin cfg0.W) (a : Fin (cfg0.win w).shape.rank), (cfg0.win w).index t a = 0) t w a

/-- The product of the arguments. -/
def ymat (c : Dev nD) : Mat 8192 24576 := prod (V m c main_v0) (V m c main_arg1) (V m c main_arg2) (V m c main_v1)

/-- An element of a block at block index 0 stands where it stands in the block. -/
theorem place {n k y : ℕ} (h : n = 0) : n * k + y = y := by rw [h, Nat.zero_mul, Nat.zero_add]

theorem iblk0 (c : Dev nD) (t : Fin cfg0.N) : (iblk m c 0 t : Vec Ideal S8192x8192 .bf16) = V m c main_v0 := funext fun y => congrArg (V m c main_v0)
  (funext fun a => Fin.ext ((Window.rect_emb_val win0_0 t y a).trans (place (index_zero t 0 a))))
theorem iblk1 (c : Dev nD) (t : Fin cfg0.N) : (iblk m c 1 t : Vec Ideal S24576x8192 .fp8e4m3) = V m c main_arg1 := funext fun y => congrArg (V m c main_arg1)
  (funext fun a => Fin.ext ((Window.rect_emb_val win0_1 t y a).trans (place (index_zero t 1 a))))
theorem iblk2 (c : Dev nD) (t : Fin cfg0.N) : (iblk m c 2 t : Vec Ideal S24576x256 .i8) = V m c main_arg2 := funext fun y => congrArg (V m c main_arg2)
  (funext fun a => Fin.ext ((Window.rect_emb_val win0_2 t y a).trans (place (index_zero t 2 a))))
theorem iblk3 (c : Dev nD) (t : Fin cfg0.N) : (iblk m c 3 t : Vec Ideal S8192x24576 .bf16) = V m c main_v1 := funext fun y => congrArg (V m c main_v1)
  (funext fun a => Fin.ext ((Window.rect_emb_val win0_3 t y a).trans (place (index_zero t 3 a))))

theorem covers4 : (cfg0.win 4).Covers := by decide +kernel
theorem covers5 : (cfg0.win 5).Covers := by decide +kernel
theorem covers6 : (cfg0.win 6).Covers := by decide +kernel
theorem covers7 : (cfg0.win 7).Covers := by decide +kernel
theorem covers8 : (cfg0.win 8).Covers := by decide +kernel

/-- The results' arrays: the product, -/
theorem arr4 (c : Dev nD) : (dats m 0 c).arrAt 4 cfg0.N = (ymat m c) := by
  refine Dat.arrAt_eq_of_covers _ 4 _ covers4 fun t _ y => ?_
  rw [after0_4, iblk0, iblk1, iblk2, iblk3, out4]
  exact congrArg (ymat m c) (funext fun a => Fin.ext ((Window.rect_emb_val win0_4 t y a).trans (place (index_zero t 4 a)))).symm

/-- the codes of the rows, -/
theorem arr5 (c : Dev nD) : (dats m 0 c).arrAt 5 cfg0.N = (rowCodesR (V m c main_v0 : Mat 8192 8192)) := by
  refine Dat.arrAt_eq_of_covers _ 5 _ covers5 fun t _ y => ?_
  rw [after0_5, iblk0, iblk1, iblk2, iblk3, out5]
  exact congrArg (rowCodesR (V m c main_v0 : Mat 8192 8192)) (funext fun a => Fin.ext ((Window.rect_emb_val win0_5 t y a).trans (place (index_zero t 5 a)))).symm

/-- their scales, -/
theorem arr6 (c : Dev nD) : (dats m 0 c).arrAt 6 cfg0.N = (rowScalesR (V m c main_v0 : Mat 8192 8192)) := by
  refine Dat.arrAt_eq_of_covers _ 6 _ covers6 fun t _ y => ?_
  rw [after0_6, iblk0, iblk1, iblk2, iblk3, out6]
  exact congrArg (rowScalesR (V m c main_v0 : Mat 8192 8192)) (funext fun a => Fin.ext ((Window.rect_emb_val win0_6 t y a).trans (place (index_zero t 6 a)))).symm

/-- the codes of the product's groups -/
theorem arr7 (c : Dev nD) : (dats m 0 c).arrAt 7 cfg0.N = (grpCodesR (by decide : 32 ∣ 24576) (ymat m c)) := by
  refine Dat.arrAt_eq_of_covers _ 7 _ covers7 fun t _ y => ?_
  rw [after0_7, iblk0, iblk1, iblk2, iblk3, out7]
  exact congrArg (grpCodesR (by decide : 32 ∣ 24576) (ymat m c)) (funext fun a => Fin.ext ((Window.rect_emb_val win0_7 t y a).trans (place (index_zero t 7 a)))).symm

/-- and their bytes. -/
theorem arr8 (c : Dev nD) : (dats m 0 c).arrAt 8 cfg0.N = (grpBytesR (q := 768) (by decide : 24576 = 32 * 768) (ymat m c)) := by
  refine Dat.arrAt_eq_of_covers _ 8 _ covers8 fun t _ y => ?_
  rw [after0_8, iblk0, iblk1, iblk2, iblk3, out8]
  exact congrArg (grpBytesR (q := 768) (by decide : 24576 = 32 * 768) (ymat m c)) (funext fun a => Fin.ext ((Window.rect_emb_val win0_8 t y a).trans (place (index_zero t 8 a)))).symm

/-- The reference terminates with the five results and its arguments kept. -/
theorem run (ρ : Dev nD → PrngReg) : θ_run (defs (F := Ideal)) (onTc (τ := τ) (main (F := Ideal))) ⟨m, fun _ => 0, ρ⟩ (fun r => ∀ c : Dev nD,
      (r.2.mem ((c : Thread nD τ).loc main_v2_0) : Mat 8192 24576) = ymat m c
      ∧ (r.2.mem ((c : Thread nD τ).loc main_v2_1) : Mat 8192 8192) = rowCodesR (V m c main_v0 : Mat 8192 8192)
      ∧ (r.2.mem ((c : Thread nD τ).loc main_v2_2) : Mat 8192 1) = rowScalesR (V m c main_v0 : Mat 8192 8192)
      ∧ (r.2.mem ((c : Thread nD τ).loc main_v2_3) : Mat 8192 24576) = grpCodesR (by decide : 32 ∣ 24576) (ymat m c)
      ∧ (r.2.mem ((c : Thread nD τ).loc main_v2_4) : Bytes 8192 768) = grpBytesR (q := 768) (by decide : 24576 = 32 * 768) (ymat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨((h c).1 4).trans (arr4 m c), ((h c).1 5).trans (arr5 m c), ((h c).1 6).trans (arr6 m c), ((h c).1 7).trans (arr7 m c),
      ((h c).1 8).trans (arr8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ReferenceIdeal.Value

end
-- ==== Proof.Val.Equal.lean ====
/- The kernel's five results are the reference's, over the extended reals. -/
module

public import proofs.«01_k».proof.Defs
public import proofs.«01_k».proof.Proof.Val.KFinal
public import proofs.«01_k».proof.Proof.Val.RRun
public import Idealize.ShloMosaic.Lib.Claim

@[expose] public section

set_option maxRecDepth 16384

noncomputable section

namespace Cert.Equal

open Cert.Scale
open Idealize.ShloMosaic Idealize.ShloMosaic.TcCoe

/-! ## The operands both programs reshape their arguments to -/

section
open Cert.KernelIdeal Cert.KernelIdeal.Gen Cert.KernelIdeal.Run
variable (m : (ℓ : Loc nD τ sig) → Buf (Elt Ideal) ℓ) (c : Dev nD)

theorem ker_x : V1 m c main_v0 = shapeCast S8192x8192 (m ((c : Thread nD τ).loc main_arg0)) shapeCasts_S4x2048x8192_S8192x8192 := by
  unfold V1
  entry_read
  rfl
theorem ker_r : W3 m c main_v2 = shapeCast S8192x24576 (W2 m c main_arg3) shapeCasts_S4x2048x24576_S8192x24576 := by
  unfold W3
  entry_read
  rfl
end

section
open Cert.ReferenceIdeal Cert.ReferenceIdeal.Gen
variable (m : (ℓ : Loc nD τ sig) → Buf (Elt Ideal) ℓ) (c : Dev nD)

theorem ref_x : V m c main_v0 = shapeCast S8192x8192 (m ((c : Thread nD τ).loc main_arg0)) shapeCasts_S4x2048x8192_S8192x8192 := by
  entry_read
  rfl
theorem ref_r : V m c main_v1 = shapeCast S8192x24576 (m ((c : Thread nD τ).loc main_arg3)) shapeCasts_S4x2048x24576_S8192x24576 := by
  entry_read
  rfl
end

/-! ## The results -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From equal arguments both programs quantize the same matrix, -/
theorem x_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.V m' c Cert.ReferenceIdeal.main_v0 : Mat 8192 8192) = Cert.KernelIdeal.Value.xmat m c :=
  (ref_x m' c).trans ((congrArg (fun a => shapeCast Cert.KernelIdeal.S8192x8192 (s := Cert.KernelIdeal.S4x2048x8192) (α := EReal) a Cert.KernelIdeal.Gen.shapeCasts_S4x2048x8192_S8192x8192) h).trans (ker_x m c).symm)

/-- add the same residual, -/
theorem r_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.V m' c Cert.ReferenceIdeal.main_v1 : Mat 8192 24576) = Cert.KernelIdeal.Value.rmat m c :=
  (ref_r m' c).trans ((congrArg (fun a => shapeCast Cert.KernelIdeal.S8192x24576 (s := Cert.KernelIdeal.S4x2048x24576) (α := EReal) a Cert.KernelIdeal.Gen.shapeCasts_S4x2048x24576_S8192x24576)
    (h.trans ((Cert.KernelIdeal.Run.W2_of m c Cert.KernelIdeal.main_arg3 (by decide)).trans (Cert.KernelIdeal.Gen.V1_of m c Cert.KernelIdeal.main_arg3 (by decide))).symm)).trans (ker_r m c).symm)

/-- and so compute the same product. -/
theorem y_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.ymat m' c = Cert.KernelIdeal.Value.ymat m c := by
  have hw : (Cert.ReferenceIdeal.Gen.V m' c Cert.ReferenceIdeal.main_arg1 : Mat 24576 8192) = Cert.KernelIdeal.Value.wmat m c :=
    (Cert.ReferenceIdeal.Gen.V_main_arg1 m' c).trans (h1.trans (Cert.KernelIdeal.Run.W3_arg m c Cert.KernelIdeal.main_arg1 (by decide) (by decide) (by decide)).symm)
  have hs : (Cert.ReferenceIdeal.Gen.V m' c Cert.ReferenceIdeal.main_arg2 : Bytes 24576 256) = Cert.KernelIdeal.Value.smat m c :=
    (Cert.ReferenceIdeal.Gen.V_main_arg2 m' c).trans (h2.trans (Cert.KernelIdeal.Run.W3_arg m c Cert.KernelIdeal.main_arg2 (by decide) (by decide) (by decide)).symm)
  unfold Cert.ReferenceIdeal.Value.ymat Cert.ReferenceIdeal.Value.prod Cert.KernelIdeal.Value.ymat
  rw [x_eq m m' c h0, r_eq m m' c h3, hw, hs, rowCodes_eq (by decide), rowScales_eq (by decide), weights_eq]

end

/-- The value claim: from equal arguments both programs end with the same five results and their arguments unchanged. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Value.ymat m c, fun c => rowCodes (Cert.KernelIdeal.Value.xmat m c), fun c => rowScales (Cert.KernelIdeal.Value.xmat m c),
    fun c => grpCodes (by decide : 32 ∣ 24576) (Cert.KernelIdeal.Value.ymat m c), fun c => grpBytes (q := 768) (by decide : 24576 = 32 * 768) (Cert.KernelIdeal.Value.ymat m c),
    (θ_run _ _ _).mono (fun r hr => hr.1) (Cert.KernelIdeal.Value.run m g),
    (θ_run _ _ _).mono (fun r hr c => ?_) (Cert.ReferenceIdeal.Value.run m' g')⟩
  obtain ⟨h0, h1, h2, h3⟩ := h c
  obtain ⟨r0, r1, r2, r3, r4, ha⟩ := hr c
  have hx := x_eq m m' c h0
  have hy := y_eq m m' c h0 h1 h2 h3
  rw [hx] at r1 r2
  rw [hy] at r0 r3 r4
  exact ⟨r0, r1.trans (rowCodes_eq (by decide) _).symm, r2.trans (rowScales_eq (by decide) _).symm, r3.trans (grpCodes_eq _ _).symm, r4.trans (grpBytes_eq _ _).symm, ha⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Ker.Frame
public import proofs.«01_k».proof.Proof.KerIdeal.Frame
public import proofs.«01_k».proof.Proof.Val.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Frame.frame m ρ, fun m ρ _ => Cert.KernelIdeal.Frame.frame m ρ, fun m ρ _ => Cert.ReferenceIdeal.Gen.frame m ρ, trivial, Cert.Equal.algebraic⟩

end Cert.Proof

end
